-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S40x1024x8192 : Shape := ⟨3, ![40, 1024, 8192]⟩
abbrev S40x8192 : Shape := ⟨2, ![40, 8192]⟩
abbrev S8192x8192 : Shape := ⟨2, ![8192, 8192]⟩
abbrev S40x128x128 : Shape := ⟨3, ![40, 128, 128]⟩
abbrev S40x64x128 : Shape := ⟨3, ![40, 64, 128]⟩
abbrev S40x128x384 : Shape := ⟨3, ![40, 128, 384]⟩
abbrev S40x1x8192 : Shape := ⟨3, ![40, 1, 8192]⟩
abbrev S40x512x8192 : Shape := ⟨3, ![40, 512, 8192]⟩
abbrev S40x8x8192 : Shape := ⟨3, ![40, 8, 8192]⟩
abbrev S1x1024x8192 : Shape := ⟨3, ![1, 1024, 8192]⟩
abbrev S1x1x8192 : Shape := ⟨3, ![1, 1, 8192]⟩
abbrev S8192x512 : Shape := ⟨2, ![8192, 512]⟩
abbrev S1x128x384 : Shape := ⟨3, ![1, 128, 384]⟩
abbrev S1x512x512 : Shape := ⟨3, ![1, 512, 512]⟩
abbrev S1x8x512 : Shape := ⟨3, ![1, 8, 512]⟩
abbrev S1024x8192 : Shape := ⟨2, ![1024, 8192]⟩
abbrev S1x8192 : Shape := ⟨2, ![1, 8192]⟩
abbrev S1024x512 : Shape := ⟨2, ![1024, 512]⟩
abbrev S128x512 : Shape := ⟨2, ![128, 512]⟩
abbrev S384x512 : Shape := ⟨2, ![384, 512]⟩
abbrev S128x384 : Shape := ⟨2, ![128, 384]⟩
abbrev S512 : Shape := ⟨1, ![512]⟩
abbrev S1x512 : Shape := ⟨2, ![1, 512]⟩
abbrev S64x512 : Shape := ⟨2, ![64, 512]⟩
abbrev S1x64x512 : Shape := ⟨3, ![1, 64, 512]⟩
abbrev S1x1x512 : Shape := ⟨3, ![1, 1, 512]⟩
abbrev S1x2x512 : Shape := ⟨3, ![1, 2, 512]⟩

abbrev nBuf : Space → Nat
  | .hbm => 12
  | .vmem => 13
  | .smem => 0
  | _ => 0

abbrev bufTy : (tb : Table) → Fin (tcTables nBuf tb) → BufTy
  | .hbm, ⟨0, _⟩ => ⟨S40x1024x8192, .i8⟩
  | .hbm, ⟨1, _⟩ => ⟨S40x8192, .f32⟩
  | .hbm, ⟨2, _⟩ => ⟨S8192x8192, .bf16⟩
  | .hbm, ⟨3, _⟩ => ⟨S40x128x128, .bf16⟩
  | .hbm, ⟨4, _⟩ => ⟨S40x128x128, .bf16⟩
  | .hbm, ⟨5, _⟩ => ⟨S40x64x128, .bf16⟩
  | .hbm, ⟨6, _⟩ => ⟨S40x64x128, .bf16⟩
  | .hbm, ⟨7, _⟩ => ⟨S40x128x128, .bf16⟩
  | .hbm, ⟨8, _⟩ => ⟨S40x128x384, .bf16⟩
  | .hbm, ⟨9, _⟩ => ⟨S40x1x8192, .f32⟩
  | .hbm, ⟨10, _⟩ => ⟨S40x512x8192, .i8⟩
  | .hbm, ⟨11, _⟩ => ⟨S40x8x8192, .bf16⟩
  | .local _ .vmem, ⟨0, _⟩ => ⟨S1x1024x8192, .i8⟩
  | .local _ .vmem, ⟨1, _⟩ => ⟨S1x1024x8192, .i8⟩
  | .local _ .vmem, ⟨2, _⟩ => ⟨S1x1x8192, .f32⟩
  | .local _ .vmem, ⟨3, _⟩ => ⟨S1x1x8192, .f32⟩
  | .local _ .vmem, ⟨4, _⟩ => ⟨S8192x512, .bf16⟩
  | .local _ .vmem, ⟨5, _⟩ => ⟨S8192x512, .bf16⟩
  | .local _ .vmem, ⟨6, _⟩ => ⟨S1x128x384, .bf16⟩
  | .local _ .vmem, ⟨7, _⟩ => ⟨S1x128x384, .bf16⟩
  | .local _ .vmem, ⟨8, _⟩ => ⟨S1x512x512, .i8⟩
  | .local _ .vmem, ⟨9, _⟩ => ⟨S1x512x512, .i8⟩
  | .local _ .vmem, ⟨10, _⟩ => ⟨S1x8x512, .bf16⟩
  | .local _ .vmem, ⟨11, _⟩ => ⟨S1x8x512, .bf16⟩
  | .local _ .vmem, ⟨12, _⟩ => ⟨S1024x8192, .bf16⟩
  | _, _ => ⟨S40x1024x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![40, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S40x1024x8192 : Shape := ⟨3, ![40, 1024, 8192]⟩
abbrev S40x8192 : Shape := ⟨2, ![40, 8192]⟩
abbrev S8192x8192 : Shape := ⟨2, ![8192, 8192]⟩
abbrev S40x128x128 : Shape := ⟨3, ![40, 128, 128]⟩
abbrev S40x1x8192 : Shape := ⟨3, ![40, 1, 8192]⟩
abbrev S40x8x128x8192 : Shape := ⟨4, ![40, 8, 128, 8192]⟩
abbrev S40x8x8192x128 : Shape := ⟨4, ![40, 8, 8192, 128]⟩
abbrev S_ : Shape := ⟨0, ![]⟩
abbrev S40x8x8192 : Shape := ⟨3, ![40, 8, 8192]⟩
abbrev S40x8x1x8192 : Shape := ⟨4, ![40, 8, 1, 8192]⟩
abbrev S40x512x8192 : Shape := ⟨3, ![40, 512, 8192]⟩

abbrev nBuf : Space → Nat
  | .hbm => 60
  | .vmem => 0
  | .smem => 0
  | _ => 0

abbrev bufTy : (tb : Table) → Fin (tcTables nBuf tb) → BufTy
  | .hbm, ⟨0, _⟩ => ⟨S40x1024x8192, .i8⟩
  | .hbm, ⟨1, _⟩ => ⟨S40x8192, .f32⟩
  | .hbm, ⟨2, _⟩ => ⟨S8192x8192, .bf16⟩
  | .hbm, ⟨3, _⟩ => ⟨S40x128x128, .bf16⟩
  | .hbm, ⟨4, _⟩ => ⟨S40x1024x8192, .i32⟩
  | .hbm, ⟨5, _⟩ => ⟨S40x1024x8192, .f32⟩
  | .hbm, ⟨6, _⟩ => ⟨S40x1024x8192, .bf16⟩
  | .hbm, ⟨7, _⟩ => ⟨S40x8192, .bf16⟩
  | .hbm, ⟨8, _⟩ => ⟨S40x1x8192, .bf16⟩
  | .hbm, ⟨9, _⟩ => ⟨S40x1024x8192, .bf16⟩
  | .hbm, ⟨10, _⟩ => ⟨S40x1024x8192, .bf16⟩
  | .hbm, ⟨11, _⟩ => ⟨S40x1024x8192, .f32⟩
  | .hbm, ⟨12, _⟩ => ⟨S40x8x128x8192, .f32⟩
  | .hbm, ⟨13, _⟩ => ⟨S40x128x128, .f32⟩
  | .hbm, ⟨14, _⟩ => ⟨S40x8x8192x128, .f32⟩
  | .hbm, ⟨15, _⟩ => ⟨S40x8x128x8192, .f32⟩
  | .hbm, ⟨16, _⟩ => ⟨S40x1024x8192, .f32⟩
  | .hbm, ⟨17, _⟩ => ⟨S40x8x128x8192, .f32⟩
  | .hbm, ⟨18, _⟩ => ⟨S40x8x128x8192, .f32⟩
  | .hbm, ⟨19, _⟩ => ⟨S_, .f32⟩
  | .hbm, ⟨20, _⟩ => ⟨S40x8x8192, .f32⟩
  | .hbm, ⟨21, _⟩ => ⟨S_, .f32⟩
  | .hbm, ⟨22, _⟩ => ⟨S40x8x8192, .f32⟩
  | .hbm, ⟨23, _⟩ => ⟨S40x8x8192, .i1⟩
  | .hbm, ⟨24, _⟩ => ⟨S_, .f32⟩
  | .hbm, ⟨25, _⟩ => ⟨S40x8x8192, .f32⟩
  | .hbm, ⟨26, _⟩ => ⟨S40x8x8192, .f32⟩
  | .hbm, ⟨27, _⟩ => ⟨S_, .f32⟩
  | .hbm, ⟨28, _⟩ => ⟨S_, .f32⟩
  | .hbm, ⟨29, _⟩ => ⟨S40x8x8192, .f32⟩
  | .hbm, ⟨30, _⟩ => ⟨S40x8x8192, .f32⟩
  | .hbm, ⟨31, _⟩ => ⟨S40x8x8192, .bf16⟩
  | .hbm, ⟨32, _⟩ => ⟨S40x8x8192, .f32⟩
  | .hbm, ⟨33, _⟩ => ⟨S40x8x1x8192, .f32⟩
  | .hbm, ⟨34, _⟩ => ⟨S40x8x128x8192, .f32⟩
  | .hbm, ⟨35, _⟩ => ⟨S40x8x128x8192, .f32⟩
  | .hbm, ⟨36, _⟩ => ⟨S40x8x128x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S40x8x128x8192, .f32⟩
  | .hbm, ⟨41, _⟩ => ⟨S40x8x128x8192, .f32⟩
  | .hbm, ⟨42, _⟩ => ⟨S_, .f32⟩
  | .hbm, ⟨43, _⟩ => ⟨S40x8x128x8192, .f32⟩
  | .hbm, ⟨44, _⟩ => ⟨S40x8x128x8192, .f32⟩
  | .hbm, ⟨45, _⟩ => ⟨S40x8x128x8192, .i32⟩
  | .hbm, ⟨46, _⟩ => ⟨S40x1024x8192, .i32⟩
  | .hbm, ⟨47, _⟩ => ⟨S40x512x8192, .i32⟩
  | .hbm, ⟨48, _⟩ => ⟨S_, .i32⟩
  | .hbm, ⟨49, _⟩ => ⟨S40x512x8192, .i32⟩
  | .hbm, ⟨50, _⟩ => ⟨S40x512x8192, .i32⟩
  | .hbm, ⟨51, _⟩ => ⟨S40x512x8192, .i32⟩
  | .hbm, ⟨52, _⟩ => ⟨S_, .i32⟩
  | .hbm, ⟨53, _⟩ => ⟨S40x512x8192, .i32⟩
  | .hbm, ⟨54, _⟩ => ⟨S40x512x8192, .i32⟩
  | .hbm, ⟨55, _⟩ => ⟨S_, .i32⟩
  | .hbm, ⟨56, _⟩ => ⟨S40x512x8192, .i32⟩
  | .hbm, ⟨57, _⟩ => ⟨S40x512x8192, .i32⟩
  | .hbm, ⟨58, _⟩ => ⟨S40x512x8192, .i32⟩
  | .hbm, ⟨59, _⟩ => ⟨S40x512x8192, .i8⟩
  | _, _ => ⟨S40x1024x8192, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Proof.Kernel.Heads.lean ====
/- The kernel body's arithmetic as plain functions of the blocks it reads: one head's rotation, largest magnitude, scale,
   codes and packed codes, and the two output blocks a grid point leaves. -/
module

public import proofs.«01_k».proof.Proof.Gen.Kernel.Frame
public import Idealize.ShloMosaic.Lib.VecWindow
public import Idealize.ShloMosaic.Lib.Pointwise.Index

@[expose] public section

noncomputable section

namespace Cert.Kernel.Hand

open Idealize.ShloMosaic Idealize.ShloMosaic.TcCoe
open Idealize.SL Idealize.SL.Sem
open Cert.Kernel Cert.Kernel.Gen

variable {F : FTy → Type} [FloatOps F]

/-- Head `h`'s 128 rows lie inside the 1024 rows of the product. -/
theorem slices_head (h : Fin 8) : S1024x512.Slices ![128 * h.val, 0] S128x512 :=
  ⟨rfl, fun a => by
    have := h.isLt
    fin_cases a
    · show 128 * h.val + 128 ≤ 1024; omega
    · show 0 + 512 ≤ 512; omega⟩

/-- Head `h`'s 128 rows of the product. -/
def rowsOf (acc : FVec F S1024x512 .f32) (h : Fin 8) : FVec F S128x512 .f32 :=
  extractStridedSlice S128x512 ![128 * h.val, 0] acc (slices_head h)

/-- What is left of `x` after its bf16 rounding is taken off. -/
def leftOver (x : FVec F S128x512 .f32) : FVec F S128x512 .f32 :=
  subf x (extf .f32 (truncf .bf16 x bitsLt_bf16_f32) bitsLt_bf16_f32)

/-- The three bf16 pieces of `x`, stacked along the rows. -/
def pieces (x : FVec F S128x512 .f32) : FVec F S384x512 .bf16 :=
  concatenate S384x512 0 [⟨S128x512, truncf .bf16 x bitsLt_bf16_f32⟩, ⟨S128x512, truncf .bf16 (leftOver x) bitsLt_bf16_f32⟩,
    ⟨S128x512, truncf .bf16 (leftOver (leftOver x)) bitsLt_bf16_f32⟩] concatenates_S128x512_S128x512_S128x512_S384x512_d0

/-- One head's rotated rows: the batch's stacked rotation times the three pieces. -/
def rotOf (x : FVec F S128x512 .f32) (r : Vec F S1x128x384 .bf16) : FVec F S128x512 .f32 :=
  matmul dot_S128x384_S384x512_S128x512_1_0_0_1_n_n none (shapeCast S128x384 r shapeCasts_S1x128x384_S128x384 : FVec F S128x384 .bf16) (pieces x)
    (constant S128x512 .f32 0x00000000#32)

/-- The largest magnitude of each column of a head's rotated rows. -/
def amaxOf (rot : FVec F S128x512 .f32) : FVec F S1x512 .f32 :=
  shapeCast S1x512 (multiReduction .maximumf [0] S512 (absf rot) 0xFF800000#32 reduces_S128x512_S512 (.inl rfl) rfl) shapeCasts_S512_S1x512

/-- The bf16 scale of each column: one where the column is zero, a seventh of its largest magnitude elsewhere. -/
def scaleOf (am : FVec F S1x512 .f32) : FVec F S1x512 .bf16 :=
  truncf .bf16 (select (cmpf .oeq am (broadcast S1x512 (Scalar.ofBits .f32 0x00000000#32 : F .f32)))
    (broadcast S1x512 (Scalar.ofBits .f32 0x3F800000#32 : F .f32))
    (divf am (broadcast S1x512 (Scalar.ofBits .f32 0x40E00000#32 : F .f32)))) bitsLt_bf16_f32

/-- A head's int4 codes: each rotated entry over its column's scale, rounded and clamped to [-7, 7]. -/
def codesOf (rot : FVec F S128x512 .f32) (sc : FVec F S1x512 .bf16) : IVec S128x512 32 :=
  fptosi 32 (minimumf (broadcast S128x512 (Scalar.ofBits .f32 0x40E00000#32 : F .f32))
    (maximumf (broadcast S128x512 (Scalar.ofBits .f32 0xC0E00000#32 : F .f32))
      (roundeven (divf rot (broadcastTo S128x512 (extf .f32 sc bitsLt_bf16_f32 : FVec F S1x512 .f32) broadcasts_S1x512_S128x512)))))

/-- The low nibbles of a head's first 64 rows with those of its last 64 rows above them, a byte each. -/
def packOf (q : IVec S128x512 32) : IVec S1x64x512 8 :=
  shapeCast S1x64x512 (trunci 8 (ori
    (andi (extractStridedSlice S64x512 ![0, 0] q slices_S128x512_o0_0_S64x512) (broadcast S64x512 15#32))
    (shli (andi (extractStridedSlice S64x512 ![64, 0] q slices_S128x512_o64_0_S64x512) (broadcast S64x512 15#32)) (broadcast S64x512 4#32))) natLt_8_32)
    shapeCasts_S64x512_S1x64x512

/-- The scale row a head stores. -/
def headS (acc : FVec F S1024x512 .f32) (r : Vec F S1x128x384 .bf16) (h : Fin 8) : FVec F S1x1x512 .bf16 :=
  shapeCast S1x1x512 (scaleOf (amaxOf (rotOf (rowsOf acc h) r))) shapeCasts_S1x512_S1x1x512

/-- The 64 rows of packed codes a head stores. -/
def headQ (acc : FVec F S1024x512 .f32) (r : Vec F S1x128x384 .bf16) (h : Fin 8) : IVec S1x64x512 8 :=
  packOf (codesOf (rotOf (rowsOf acc h) r) (scaleOf (amaxOf (rotOf (rowsOf acc h) r))))

/-- The block of packed codes a grid point leaves: row `64 h + k` is row `k` of head `h`'s. -/
def qBlock (acc : FVec F S1024x512 .f32) (r : Vec F S1x128x384 .bf16) : Vec F S1x512x512 .i8 := fun y =>
  headQ acc r ⟨(y 1).val / 64, by have h : (y 1).val < 512 := (y 1).isLt; omega⟩
    (ix3 (n0 := 1) (n1 := 64) (n2 := 512) 0 ⟨(y 1).val % 64, Nat.mod_lt _ (by decide)⟩ (y 2))

/-- The block of scales a grid point leaves: row `h` is head `h`'s. -/
def sBlock (acc : FVec F S1024x512 .f32) (r : Vec F S1x128x384 .bf16) : Vec F S1x8x512 .bf16 := fun y =>
  headS acc r (y 1) (ix3 (n0 := 1) (n1 := 1) (n2 := 512) 0 0 (y 2))

end Cert.Kernel.Hand

end
-- ==== Proof.Kernel.Setup.lean ====
/- The branch condition of the body at a grid point, and names for the staging memrefs and the carried scratch. -/
module

public import proofs.«01_k».proof.Proof.Kernel.Heads
public import proofs.«01_k».proof.Proof.Gen.Kernel.Skeleton

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 640 := Nat.lt_of_lt_of_eq t.isLt N_0
    have e0 : (grid0.coords t 0).val = t.val / 16 % 40 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The staging memrefs -/

/-- Each window's current staging memref at point `t`, spelled as the pipeline passes it (`bodyAt0`), and its wholeness. -/
abbrev ms0_0 (t : Fin cfg0.N) : Memref sig .tc .vmem S1x1024x8192 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x8192 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.Kernel.Payloads.lean ====
/- Each head's printed arithmetic is the one head function at that head: stage by stage, the rotated rows, the scale, and what
   is stored. -/
module

public import proofs.«01_k».proof.Proof.Kernel.Heads
public import proofs.«01_k».proof.Proof.Gen.Kernel.Skeleton

@[expose] public section

noncomputable section

namespace Cert.Kernel.Hand

open Idealize.ShloMosaic Idealize.ShloMosaic.TcCoe
open Idealize.SL Idealize.SL.Sem
open Cert.Kernel Cert.Kernel.Gen

variable {F : FTy → Type} [FloatOps F]
variable (w : Vec F S1024x8192 .bf16) (a : Vec F S8192x512 .bf16) (acc : FVec F S1024x512 .f32) (r : Vec F S1x128x384 .bf16)

/-! ## The rotated rows -/

/-- Head 0's rotated rows, as printed. -/
theorem rot0 : k0_pay5 w a r = rotOf (rowsOf (k0_pay4 w a) 0) r := rfl
/-- Head 1's rotated rows, as printed. -/
theorem rot1 : k0_pay12 acc r = rotOf (rowsOf acc 1) r := rfl
/-- Head 2's rotated rows, as printed. -/
theorem rot2 : k0_pay17 acc r = rotOf (rowsOf acc 2) r := rfl
/-- Head 3's rotated rows, as printed. -/
theorem rot3 : k0_pay25 acc r = rotOf (rowsOf acc 3) r := rfl
/-- Head 4's rotated rows, as printed. -/
theorem rot4 : k0_pay31 (k0_pay30 acc) r = rotOf (rowsOf acc 4) r := rfl
/-- Head 5's rotated rows, as printed. -/
theorem rot5 : k0_pay38 (k0_pay36 acc) (k0_pay37 acc) r = rotOf (rowsOf acc 5) r := rfl
/-- Head 6's rotated rows, as printed. -/
theorem rot6 : k0_pay42 acc r = rotOf (rowsOf acc 6) r := rfl
/-- Head 7's rotated rows, as printed. -/
theorem rot7 : k0_pay47 acc r = rotOf (rowsOf acc 7) r := rfl

/-! ## The scales -/

/-- Head 0's scale from its rotated rows, as printed. -/
theorem scale0 : k0_pay6 w a r = scaleOf (amaxOf (k0_pay5 w a r)) := rfl
/-- Head 1's scale from its rotated rows, as printed. -/
theorem scale1 : k0_pay13 acc r = scaleOf (amaxOf (k0_pay12 acc r)) := rfl
/-- Head 2's scale from its rotated rows, as printed. -/
theorem scale2 : k0_pay22 (k0_pay19 acc r) (k0_pay20 acc r) k0_pay21 = scaleOf (amaxOf (k0_pay17 acc r)) := rfl
/-- Head 3's scale from its rotated rows, as printed. -/
theorem scale3 : k0_pay27 (k0_pay26 acc r) = scaleOf (amaxOf (k0_pay25 acc r)) := rfl
/-- Head 4's scale from its rotated rows, as printed. -/
theorem scale4 (p : FVec F S384x512 .bf16) : k0_pay32 p r = scaleOf (amaxOf (k0_pay31 p r)) := rfl
/-- Head 5's scale from its rotated rows, as printed. -/
theorem scale5 (p : FVec F S128x512 .bf16) (x : FVec F S128x512 .f32) : k0_pay39 p x r = scaleOf (amaxOf (k0_pay38 p x r)) := rfl
/-- Head 6's scale from its rotated rows, as printed. -/
theorem scale6 : k0_pay43 acc r = scaleOf (amaxOf (k0_pay42 acc r)) := rfl
/-- Head 7's scale from its rotated rows, as printed. -/
theorem scale7 : k0_pay48 acc r = scaleOf (amaxOf (k0_pay47 acc r)) := rfl

/-! ## The scale rows stored -/

/-- The scale row head 0 stores, as printed. -/
theorem srow0 : k0_pay11 (k0_pay6 w a r) = headS (k0_pay4 w a) r 0 := by rw [scale0, rot0]; rfl
/-- The scale row head 1 stores, as printed. -/
theorem srow1 : k0_pay16 (k0_pay13 acc r) = headS acc r 1 := by rw [scale1, rot1]; rfl
/-- The scale row head 2 stores, as printed. -/
theorem srow2 : k0_pay24 (k0_pay19 acc r) (k0_pay20 acc r) k0_pay21 = headS acc r 2 := by
  unfold k0_pay24 headS; rw [scale2, rot2]
/-- The scale row head 3 stores, as printed. -/
theorem srow3 : k0_pay29 (k0_pay26 acc r) = headS acc r 3 := by unfold k0_pay29 headS; rw [scale3, rot3]
/-- The scale row head 4 stores, as printed. -/
theorem srow4 : k0_pay34 (k0_pay30 acc) r = headS acc r 4 := by unfold k0_pay34 headS; rw [scale4, rot4]
/-- The scale row head 5 stores, as printed. -/
theorem srow5 : k0_pay41 (k0_pay39 (k0_pay36 acc) (k0_pay37 acc) r) = headS acc r 5 := by rw [scale5, rot5]; rfl
/-- The scale row head 6 stores, as printed. -/
theorem srow6 : k0_pay46 (k0_pay43 acc r) = headS acc r 6 := by rw [scale6, rot6]; rfl
/-- The scale row head 7 stores, as printed. -/
theorem srow7 : k0_pay2 (k0_pay48 acc r) = headS acc r 7 := by rw [scale7, rot7]; rfl

/-! ## The packed codes stored -/

/-- The packed codes head 0 stores, as printed. -/
theorem band0 : k0_pay10 (k0_pay7 w a r) (k0_pay8 w a r) k0_pay9 = headQ (k0_pay4 w a) r 0 := by
  unfold headQ
  rw [← rot0, ← scale0]
  generalize e : codesOf (k0_pay5 w a r) (k0_pay6 w a r) = q
  have e' : k0_pay7 w a r = q := by rw [← e]; rfl
  unfold k0_pay8
  rw [e']
  rfl
/-- The packed codes head 1 stores, as printed. -/
theorem band1 : k0_pay15 (k0_pay14 acc r) (Scalar.ofBits .f32 0xC0E00000#32) (Scalar.ofBits .f32 0x40E00000#32) = headQ acc r 1 := by
  unfold headQ
  rw [← rot1, ← scale1]
  rfl
/-- The packed codes head 2 stores, as printed. -/
theorem band2 : k0_pay23 (k0_pay17 acc r) (k0_pay19 acc r) (k0_pay20 acc r) k0_pay21 = headQ acc r 2 := by
  unfold headQ k0_pay23
  rw [← rot2, scale2]
  rfl
/-- The packed codes head 3 stores, as printed. -/
theorem band3 : k0_pay28 (k0_pay25 acc r) (k0_pay26 acc r) = headQ acc r 3 := by
  unfold headQ k0_pay28
  rw [← rot3, scale3]
  rfl
/-- The packed codes head 4 stores, as printed. -/
theorem band4 : k0_pay33 (k0_pay30 acc) r = headQ acc r 4 := by
  unfold headQ k0_pay33
  rw [← rot4, scale4]
  rfl
/-- The packed codes head 5 stores, as printed. -/
theorem band5 : k0_pay40 (k0_pay36 acc) (k0_pay37 acc) r = headQ acc r 5 := by
  unfold headQ k0_pay40
  rw [← rot5, scale5]
  rfl
/-- The packed codes head 6 stores, as printed. -/
theorem band6 : k0_pay45 (k0_pay44 acc r) = headQ acc r 6 := by
  unfold headQ
  rw [← rot6, ← scale6]
  rfl
/-- The packed codes head 7 stores, as printed. -/
theorem band7 : k0_pay1 (k0_pay50 acc r) (k0_pay51 acc r) k0_pay52 = headQ acc r 7 := by
  unfold headQ
  rw [← rot7, ← scale7]
  generalize e : codesOf (k0_pay47 acc r) (k0_pay48 acc r) = q
  have e' : k0_pay49 acc r = q := by rw [← e]; rfl
  unfold k0_pay50 k0_pay51
  rw [e']
  rfl

end Cert.Kernel.Hand

end
-- ==== Proof.Kernel.Pieces.lean ====
/- What the two output blocks hold after a grid point's stores: eight bands of packed codes, and eight scale rows each stored
   by rewriting the pair of rows it lies in. -/
module

public import proofs.«01_k».proof.Proof.Kernel.Setup
public import proofs.«01_k».proof.Proof.Kernel.Payloads

@[expose] public section

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

/-- A load of a whole staging memref's own sizes reads the contents it was given. -/
theorem readAt_unread {s : Shape} {e : EltTy} (m : Memref sig .tc .vmem s e) (hm : m.IsWhole) (x : s.Idx → Elt F e) {off : Fin s.rank → ℕ}
    (inb : ∀ a, off a + s.size a ≤ s.size a) :
    m.view.readAt (Elt F) (Rect.unit off s.size inb).toLoadRect (hm.unread x) = x := by
  rw [View.readAt_full]
  exact hm.read_unread x

section Bands

variable {κ : Kind} {sp : Space} (v : View sig κ sp S1x512x512 .i8) (f : v.ty.Contents (Elt F))

/-- One band of 64 rows stored over a list of earlier stores: inside the band the block reads the band, elsewhere what the
    earlier stores left. -/
theorem read_band (o : ℕ) (inb : ∀ a, (![0, o, 0] : Fin 3 → ℕ) a + S1x64x512.size a ≤ S1x512x512.size a) (w : IVec S1x64x512 8)
    (L : List (View.Piece (Elt F) S1x512x512 .i8)) (y : S1x512x512.Idx) :
    v.read (Elt F) (v.writes (Elt F) f (⟨Rect.unit ![0, o, 0] S1x64x512.size inb, w⟩ :: L)) y
      = if h : o ≤ (y 1).val ∧ (y 1).val < o + 64 then
          w (ix3 (n0 := 1) (n1 := 64) (n2 := 512) 0 ⟨(y 1).val - o, by omega⟩ (y 2))
        else v.read (Elt F) (v.writes (Elt F) f L) y := by
  by_cases h : o ≤ (y 1).val ∧ (y 1).val < o + 64
  · rw [dif_pos h]
    refine View.read_writes_cons_hit_of_coords v f (Rect.unit ![0, o, 0] S1x64x512.size inb) w L _ y fun a => ?_
    fin_cases a
    · show (y 0).val = 0 + 1 * 0
      have : (y 0).val < 1 := (y 0).isLt
      omega
    · show (y 1).val = o + 1 * ((y 1).val - o); omega
    · show (y 2).val = 0 + 1 * (y 2).val; omega
  · rw [dif_neg h]
    exact View.read_writes_cons_miss_of_axis v f _ L y 1 o 64 rfl rfl rfl (by omega)

/-- The eight bands of 64 rows together are the block of packed codes. -/
theorem read_bands (acc : FVec F S1024x512 .f32) (r : Vec F S1x128x384 .bf16) (w0 w1 w2 w3 w4 w5 w6 w7 : IVec S1x64x512 8)
    (e0 : w0 = headQ acc r 0) (e1 : w1 = headQ acc r 1) (e2 : w2 = headQ acc r 2) (e3 : w3 = headQ acc r 3)
    (e4 : w4 = headQ acc r 4) (e5 : w5 = headQ acc r 5) (e6 : w6 = headQ acc r 6) (e7 : w7 = headQ acc r 7) :
    v.read (Elt F) (v.writes (Elt F) f
      [⟨Rect.unit ![0, 448, 0] S1x64x512.size inb_S1x512x512_S1x64x512_0_448_0, w7⟩,
       ⟨Rect.unit ![0, 384, 0] S1x64x512.size inb_S1x512x512_S1x64x512_0_384_0, w6⟩,
       ⟨Rect.unit ![0, 320, 0] S1x64x512.size inb_S1x512x512_S1x64x512_0_320_0, w5⟩,
       ⟨Rect.unit ![0, 256, 0] S1x64x512.size inb_S1x512x512_S1x64x512_0_256_0, w4⟩,
       ⟨Rect.unit ![0, 192, 0] S1x64x512.size inb_S1x512x512_S1x64x512_0_192_0, w3⟩,
       ⟨Rect.unit ![0, 128, 0] S1x64x512.size inb_S1x512x512_S1x64x512_0_128_0, w2⟩,
       ⟨Rect.unit ![0, 64, 0] S1x64x512.size inb_S1x512x512_S1x64x512_0_64_0, w1⟩,
       ⟨Rect.unit ![0, 0, 0] S1x64x512.size inb_S1x512x512_S1x64x512_0_0_0, w0⟩]) = qBlock acc r := by
  subst e0 e1 e2 e3 e4 e5 e6 e7
  funext y
  have hy : (y 1).val < 512 := (y 1).isLt
  have key : ∀ (h : Fin 8) (k : Fin 64), (y 1).val = 64 * h.val + k.val →
      headQ acc r h (ix3 (n0 := 1) (n1 := 64) (n2 := 512) 0 k (y 2)) = qBlock acc r y := fun h k e => by
    have e1 : (⟨(y 1).val / 64, by omega⟩ : Fin 8) = h := Fin.ext (by have := k.isLt; show (y 1).val / 64 = h.val; omega)
    have e2 : (⟨(y 1).val % 64, Nat.mod_lt _ (by decide)⟩ : Fin 64) = k := Fin.ext (by have := k.isLt; show (y 1).val % 64 = k.val; omega)
    unfold qBlock
    rw [e1, e2]
  rw [read_band, read_band, read_band, read_band, read_band, read_band, read_band, read_band]
  split_ifs with h7 h6 h5 h4 h3 h2 h1 h0
  · exact key 7 _ (by show (y 1).val = 64 * 7 + ((y 1).val - 448); omega)
  · exact key 6 _ (by show (y 1).val = 64 * 6 + ((y 1).val - 384); omega)
  · exact key 5 _ (by show (y 1).val = 64 * 5 + ((y 1).val - 320); omega)
  · exact key 4 _ (by show (y 1).val = 64 * 4 + ((y 1).val - 256); omega)
  · exact key 3 _ (by show (y 1).val = 64 * 3 + ((y 1).val - 192); omega)
  · exact key 2 _ (by show (y 1).val = 64 * 2 + ((y 1).val - 128); omega)
  · exact key 1 _ (by show (y 1).val = 64 * 1 + ((y 1).val - 64); omega)
  · exact key 0 _ (by show (y 1).val = 64 * 0 + ((y 1).val - 0); omega)
  · omega

end Bands

section Rows

variable {κ : Kind} {sp : Space} (v : View sig κ sp S1x8x512 .bf16)

/-- The list of stores `L` leaves the first `n` rows of the block of scales, whatever was there before. -/
def RowsLeft (acc : FVec F S1024x512 .f32) (r : Vec F S1x128x384 .bf16) (n : ℕ) (L : List (View.Piece (Elt F) S1x8x512 .bf16)) : Prop :=
  ∀ (f : v.ty.Contents (Elt F)) (y : S1x8x512.Idx), (y 1).val < n → v.read (Elt F) (v.writes (Elt F) f L) y = sBlock acc r y

/-- No store leaves no row. -/
theorem rowsLeft_nil (acc : FVec F S1024x512 .f32) (r : Vec F S1x128x384 .bf16) : RowsLeft v acc r 0 [] :=
  fun _ _ hy => absurd hy (Nat.not_lt_zero _)

/-- A pair of rows stored over earlier stores, one of the two rewritten: the rewritten row reads what was stored, its partner
    what the pair held, and every other row what it read before. -/
theorem read_pair (f : v.ty.Contents (Elt F)) (o p : ℕ) (hp : p < 2) (inb : ∀ a, (![0, o, 0] : Fin 3 → ℕ) a + S1x2x512.size a ≤ S1x8x512.size a)
    (hs : S1x2x512.Slices ![0, p, 0] S1x1x512) (w : FVec F S1x1x512 .bf16)
    (L : List (View.Piece (Elt F) S1x8x512 .bf16)) (old : S1x2x512.Idx → Elt F .bf16) (y : S1x8x512.Idx) :
    v.read (Elt F) (v.writes (Elt F) f (⟨Rect.unit ![0, o, 0] S1x2x512.size inb, updateSlice old w ![0, p, 0] hs⟩ :: L)) y
      = if h : o ≤ (y 1).val ∧ (y 1).val < o + 2 then
          if (y 1).val = o + p then w (ix3 (n0 := 1) (n1 := 1) (n2 := 512) 0 0 (y 2))
          else old (ix3 (n0 := 1) (n1 := 2) (n2 := 512) 0 ⟨(y 1).val - o, by omega⟩ (y 2))
        else v.read (Elt F) (v.writes (Elt F) f L) y := by
  by_cases h : o ≤ (y 1).val ∧ (y 1).val < o + 2
  · rw [dif_pos h, View.read_writes_cons_hit_of_coords v f (Rect.unit ![0, o, 0] S1x2x512.size inb) _ L
      (ix3 (n0 := 1) (n1 := 2) (n2 := 512) 0 ⟨(y 1).val - o, by omega⟩ (y 2)) y (fun a => by
        fin_cases a
        · show (y 0).val = 0 + 1 * 0
          have : (y 0).val < 1 := (y 0).isLt
          omega
        · show (y 1).val = o + 1 * ((y 1).val - o); omega
        · show (y 2).val = 0 + 1 * (y 2).val; omega)]
    unfold updateSlice
    by_cases e : (y 1).val = o + p
    · rw [if_pos e, dif_pos (fun a => by
        fin_cases a
        · show 0 ≤ 0 ∧ 0 < 0 + 1; omega
        · show p ≤ (y 1).val - o ∧ (y 1).val - o < p + 1; omega
        · have : (y 2).val < 512 := (y 2).isLt
          show 0 ≤ (y 2).val ∧ (y 2).val < 0 + 512; omega)]
      congr 1
      funext a
      fin_cases a
      · exact Fin.ext (show 0 - 0 = 0 from rfl)
      · exact Fin.ext (show (y 1).val - o - p = 0 by omega)
      · exact Fin.ext (show (y 2).val - 0 = (y 2).val by omega)
    · rw [if_neg e, dif_neg (fun hall => by
        have h1 : p ≤ (y 1).val - o ∧ (y 1).val - o < p + 1 := hall 1
        omega)]
  · rw [dif_neg h]
    exact View.read_writes_cons_miss_of_axis v f _ L y 1 o 2 rfl rfl rfl (by omega)

/-- The first row of a pair stored: one row more is left. What the pair held before does not matter, its second row being
    stored later. -/
theorem rowsLeft_even (acc : FVec F S1024x512 .f32) (r : Vec F S1x128x384 .bf16) (o : ℕ) (h : Fin 8) (ho : h.val = o)
    (inb : ∀ a, (![0, o, 0] : Fin 3 → ℕ) a + S1x2x512.size a ≤ S1x8x512.size a)
    (hs : S1x2x512.Slices ![0, 0, 0] S1x1x512) (w : FVec F S1x1x512 .bf16) (hw : w = headS acc r h)
    (L : List (View.Piece (Elt F) S1x8x512 .bf16)) (old : S1x2x512.Idx → Elt F .bf16) (hL : RowsLeft v acc r o L) :
    RowsLeft v acc r (o + 1) (⟨Rect.unit ![0, o, 0] S1x2x512.size inb, updateSlice old w ![0, 0, 0] hs⟩ :: L) := fun f y hy => by
  rw [read_pair v f o 0 (by decide) inb hs w L old y]
  by_cases e : o ≤ (y 1).val ∧ (y 1).val < o + 2
  · rw [dif_pos e, if_pos (by omega), hw]
    have e1 : (y 1 : Fin 8) = h := Fin.ext (show (y 1).val = h.val by omega)
    unfold sBlock
    rw [e1]
  · rw [dif_neg e]
    exact hL f y (by omega)

/-- The second row of a pair stored, the pair having held what the earlier stores left: one row more is left. -/
theorem rowsLeft_odd (acc : FVec F S1024x512 .f32) (r : Vec F S1x128x384 .bf16) (o : ℕ) (h : Fin 8) (ho : h.val = o + 1)
    (inb : ∀ a, (![0, o, 0] : Fin 3 → ℕ) a + S1x2x512.size a ≤ S1x8x512.size a)
    (hs : S1x2x512.Slices ![0, 1, 0] S1x1x512) (w : FVec F S1x1x512 .bf16) (hw : w = headS acc r h)
    (L : List (View.Piece (Elt F) S1x8x512 .bf16)) (old : S1x2x512.Idx → Elt F .bf16)
    (hold : old = v.readCov L (Rect.unit (s := S1x8x512) ![0, o, 0] S1x2x512.size inb).toLoadRect) (hL : RowsLeft v acc r (o + 1) L) :
    RowsLeft v acc r (o + 2) (⟨Rect.unit ![0, o, 0] S1x2x512.size inb, updateSlice old w ![0, 1, 0] hs⟩ :: L) := fun f y hy => by
  rw [read_pair v f o 1 (by decide) inb hs w L old y]
  by_cases e : o ≤ (y 1).val ∧ (y 1).val < o + 2
  · rw [dif_pos e]
    by_cases e' : (y 1).val = o + 1
    · rw [if_pos e', hw]
      have e1 : (y 1 : Fin 8) = h := Fin.ext (e'.trans ho.symm)
      unfold sBlock
      rw [e1]
    · rw [if_neg e', hold]
      refine Eq.trans ?_ (hL v.junk y (by omega))
      show v.read (Elt F) (v.writes (Elt F) v.junk L) ((Rect.unit (s := S1x8x512) ![0, o, 0] S1x2x512.size inb).emb _) = _
      congr 1
      funext a
      fin_cases a
      · exact Fin.ext (by
          have : (y 0).val < 1 := (y 0).isLt
          show 0 + 1 * 0 = (y 0).val
          omega)
      · exact Fin.ext (by show o + 1 * ((y 1).val - o) = (y 1).val; omega)
      · exact Fin.ext (by show 0 + 1 * (y 2).val = (y 2).val; omega)
  · rw [dif_neg e]
    exact hL f y (by omega)

end Rows

end Cert.Kernel.Hand

end
-- ==== Proof.Kernel.RunA.lean ====
/- The body at a grid point that computes the carried weight block: that block and its two output blocks from its input blocks. -/
module

public import proofs.«01_k».proof.Proof.Kernel.Pieces

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A load of a whole memref right after it was stored whole reads what was stored. -/
theorem read_stored {κ : Kind} {sp : Space} {s : Shape} {e : EltTy} (v : View sig κ sp s e) {off : Fin s.rank → ℕ}
    (inb : ∀ a, off a + s.size a ≤ s.size a) (w : s.Idx → Elt F e) :
    v.readCov (Val := Elt F) [⟨Rect.unit off s.size inb, w⟩] (Rect.unit off s.size inb).toLoadRect = w :=
  View.readCov_full v inb inb w []

/-- A whole memref after it was stored whole holds what was stored. -/
theorem stored_holds {κ : Kind} {sp : Space} {s : Shape} {e : EltTy} (v : View sig κ sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w :=
  View.read_writes_full v f inb w []

set_option maxHeartbeats 1000000 in
/-- The body at the first point of a batch: the scratch is left holding the batch's dequantised weight block, and the two output
    blocks are the packed codes and the scales of the product of that block with the point's columns. -/
theorem runA (c : Dev nD) (i : grid0.Coords) (arg2 : Memref sig .tc .vmem S1x1024x8192 .i8) (harg2 : arg2.IsWhole) (arg3 : Memref sig .tc .vmem S1x1x8192 .f32) (harg3 : arg3.IsWhole) (arg4 : Memref sig .tc .vmem S8192x512 .bf16) (harg4 : arg4.IsWhole) (arg5 : Memref sig .tc .vmem S1x128x384 .bf16) (harg5 : arg5.IsWhole) (arg6 : Memref sig .tc .vmem S1x512x512 .i8) (harg6 : arg6.IsWhole) (arg7 : Memref sig .tc .vmem S1x8x512 .bf16) (harg7 : arg7.IsWhole) (arg8 : Memref sig .tc .vmem S1024x8192 .bf16) (harg8 : arg8.IsWhole) (hc0 : cond0_0 i)
    (x0 : Vec F S1x1024x8192 .i8) (x1 : Vec F S1x1x8192 .f32) (x2 : Vec F S8192x512 .bf16) (x3 : Vec F S1x128x384 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (qBlock (k0_pay4 (k0_pay3 x1 x0) x2) x3) ∗ owns (c : Thread nD τ) arg7 fullShare (sBlock (k0_pay4 (k0_pay3 x1 x0) x2) x3) ∗ owns (c : Thread nD τ) arg8 fullShare (k0_pay3 x1 x0)) -∗ K ⟨⟩))
      ⊢ wp frame (wpE (defs₀ (F := F)) Variants.none c none) E (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  have e2 : arg4.view.readAt (Elt F) (Rect.unit (s := S8192x512) ![0, 0] S8192x512.size inb_S8192x512_S8192x512_0_0).toLoadRect (harg4.unread x2) = x2 :=
    readAt_unread arg4 harg4 x2 inb_S8192x512_S8192x512_0_0
  have e3 : arg5.view.readAt (Elt F) (Rect.unit (s := S1x128x384) ![0, 0, 0] S1x128x384.size inb_S1x128x384_S1x128x384_0_0_0).toLoadRect (harg5.unread x3) = x3 :=
    readAt_unread arg5 harg5 x3 inb_S1x128x384_S1x128x384_0_0_0
  have e0 : (arg2.view.readAt (Elt F) (Rect.unit (s := S1x1024x8192) ![0, 0, 0] S1x1024x8192.size inb_S1x1024x8192_S1x1024x8192_0_0_0).toLoadRect (harg2.unread x0)) = x0 := readAt_unread arg2 harg2 x0 inb_S1x1024x8192_S1x1024x8192_0_0_0
  have e1 : (arg3.view.readAt (Elt F) (Rect.unit (s := S1x1x8192) ![0, 0, 0] S1x1x8192.size inb_S1x1x8192_S1x1x8192_0_0_0).toLoadRect (harg3.unread x1)) = x1 := readAt_unread arg3 harg3 x1 inb_S1x1x8192_S1x1x8192_0_0_0
  have ew : k0_pay3 (arg3.view.readAt (Elt F) (Rect.unit (s := S1x1x8192) ![0, 0, 0] S1x1x8192.size inb_S1x1x8192_S1x1x8192_0_0_0).toLoadRect (harg3.unread x1)) (arg2.view.readAt (Elt F) (Rect.unit (s := S1x1024x8192) ![0, 0, 0] S1x1024x8192.size inb_S1x1024x8192_S1x1024x8192_0_0_0).toLoadRect (harg2.unread x0)) = k0_pay3 x1 x0 := by rw [e0, e1]
  have e8 : runA.sl.v3 c arg2 harg2 arg3 harg3 arg8 x0 x1 = k0_pay3 x1 x0 := by
    rw [← ew]
    unfold runA.sl.v3 runA.sl.HS0_1
    generalize k0_pay3 (F := F) _ _ = w
    exact read_stored arg8.view inb_S1024x8192_S1024x8192_0_0 w
  have eQ : ∀ h : Fin 8, headQ (k0_pay4 (runA.sl.v3 c arg2 harg2 arg3 harg3 arg8 x0 x1) (arg4.view.readAt (Elt F) (Rect.unit (s := S8192x512) ![0, 0] S8192x512.size inb_S8192x512_S8192x512_0_0).toLoadRect (harg4.unread x2))) (arg5.view.readAt (Elt F) (Rect.unit (s := S1x128x384) ![0, 0, 0] S1x128x384.size inb_S1x128x384_S1x128x384_0_0_0).toLoadRect (harg5.unread x3)) h = headQ (k0_pay4 (k0_pay3 x1 x0) x2) x3 h := fun h => by rw [e8, e2, e3]
  have eS : ∀ h : Fin 8, headS (k0_pay4 (runA.sl.v3 c arg2 harg2 arg3 harg3 arg8 x0 x1) (arg4.view.readAt (Elt F) (Rect.unit (s := S8192x512) ![0, 0] S8192x512.size inb_S8192x512_S8192x512_0_0).toLoadRect (harg4.unread x2))) (arg5.view.readAt (Elt F) (Rect.unit (s := S1x128x384) ![0, 0, 0] S1x128x384.size inb_S1x128x384_S1x128x384_0_0_0).toLoadRect (harg5.unread x3)) h = headS (k0_pay4 (k0_pay3 x1 x0) x2) x3 h := fun h => by rw [e8, e2, e3]
  isplitl [H4]
  · iexists _; isplitr; swap
    · iexact H4
    · ipureintro
      exact read_bands arg6.view f4 _ _ _ _ _ _ _ _ _ _
        ((band0 _ _ _).trans (eQ 0)) ((band1 _ _).trans (eQ 1)) ((band2 _ _).trans (eQ 2)) ((band3 _ _).trans (eQ 3))
        ((band4 _ _).trans (eQ 4)) ((band5 _ _).trans (eQ 5)) ((band6 _ _).trans (eQ 6)) ((band7 _ _).trans (eQ 7))
  isplitl [H5]
  · iexists _; isplitr; swap
    · iexact H5
    · ipureintro
      funext y
      refine (?_ : RowsLeft arg7.view (k0_pay4 (k0_pay3 x1 x0) x2) x3 8 _) f5 y (y 1).isLt
      refine rowsLeft_odd _ _ _ 6 7 rfl _ _ _ ((srow7 _ _).trans (eS 7)) _ _ rfl ?_
      refine rowsLeft_even _ _ _ 6 6 rfl _ _ _ ((srow6 _ _).trans (eS 6)) _ _ ?_
      refine rowsLeft_odd _ _ _ 4 5 rfl _ _ _ ((srow5 _ _).trans (eS 5)) _ _ rfl ?_
      refine rowsLeft_even _ _ _ 4 4 rfl _ _ _ ((srow4 _ _).trans (eS 4)) _ _ ?_
      refine rowsLeft_odd _ _ _ 2 3 rfl _ _ _ ((srow3 _ _).trans (eS 3)) _ _ rfl ?_
      refine rowsLeft_even _ _ _ 2 2 rfl _ _ _ ((srow2 _ _).trans (eS 2)) _ _ ?_
      refine rowsLeft_odd _ _ _ 0 1 rfl _ _ _ ((srow1 _ _).trans (eS 1)) _ _ rfl ?_
      refine rowsLeft_even _ _ _ 0 0 rfl _ _ _ ((srow0 _ _ _).trans (eS 0)) _ _ ?_
      exact rowsLeft_nil _ _ _
  iexists _; isplitr; swap
  · iexact HS0
  · ipureintro
    rw [← ew]
    unfold runA.sl.HS0_1
    generalize k0_pay3 (F := F) _ _ = w
    exact stored_holds arg8.view fs0 inb_S1024x8192_S1024x8192_0_0 w

end Cert.Kernel.Hand

end
-- ==== Proof.Kernel.RunB.lean ====
/- The body at a grid point that keeps the carried weight block: its two output blocks from its input blocks. -/
module

public import proofs.«01_k».proof.Proof.Kernel.Pieces

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point that is not the first of its batch: the weight block carried in the scratch stays, and the two output
    blocks are the packed codes and the scales of the product of that block with the point's columns. -/
theorem runB (c : Dev nD) (i : grid0.Coords) (arg2 : Memref sig .tc .vmem S1x1024x8192 .i8) (harg2 : arg2.IsWhole) (arg3 : Memref sig .tc .vmem S1x1x8192 .f32) (harg3 : arg3.IsWhole) (arg4 : Memref sig .tc .vmem S8192x512 .bf16) (harg4 : arg4.IsWhole) (arg5 : Memref sig .tc .vmem S1x128x384 .bf16) (harg5 : arg5.IsWhole) (arg6 : Memref sig .tc .vmem S1x512x512 .i8) (harg6 : arg6.IsWhole) (arg7 : Memref sig .tc .vmem S1x8x512 .bf16) (harg7 : arg7.IsWhole) (arg8 : Memref sig .tc .vmem S1024x8192 .bf16) (harg8 : arg8.IsWhole) (hc0 : ¬cond0_0 i)
    (x0 : Vec F S1x1024x8192 .i8) (x1 : Vec F S1x1x8192 .f32) (x2 : Vec F S8192x512 .bf16) (x3 : Vec F S1x128x384 .bf16) (xs0 : Vec F S1024x8192 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (qBlock (k0_pay4 xs0 x2) x3) ∗ owns (c : Thread nD τ) arg7 fullShare (sBlock (k0_pay4 xs0 x2) x3) ∗ owns (c : Thread nD τ) arg8 fullShare xs0) -∗ K ⟨⟩))
      ⊢ wp frame (wpE (defs₀ (F := F)) Variants.none c none) E (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg8.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  have e2 : arg4.view.readAt (Elt F) (Rect.unit (s := S8192x512) ![0, 0] S8192x512.size inb_S8192x512_S8192x512_0_0).toLoadRect (harg4.unread x2) = x2 :=
    readAt_unread arg4 harg4 x2 inb_S8192x512_S8192x512_0_0
  have e3 : arg5.view.readAt (Elt F) (Rect.unit (s := S1x128x384) ![0, 0, 0] S1x128x384.size inb_S1x128x384_S1x128x384_0_0_0).toLoadRect (harg5.unread x3) = x3 :=
    readAt_unread arg5 harg5 x3 inb_S1x128x384_S1x128x384_0_0_0
  have e8 : arg8.view.readAt (Elt F) (Rect.unit (s := S1024x8192) ![0, 0] S1024x8192.size inb_S1024x8192_S1024x8192_0_0).toLoadRect (harg8.unread xs0) = xs0 :=
    readAt_unread arg8 harg8 xs0 inb_S1024x8192_S1024x8192_0_0
  have eQ : ∀ h : Fin 8, headQ (k0_pay4 (arg8.view.readAt (Elt F) (Rect.unit (s := S1024x8192) ![0, 0] S1024x8192.size inb_S1024x8192_S1024x8192_0_0).toLoadRect (harg8.unread xs0)) (arg4.view.readAt (Elt F) (Rect.unit (s := S8192x512) ![0, 0] S8192x512.size inb_S8192x512_S8192x512_0_0).toLoadRect (harg4.unread x2))) (arg5.view.readAt (Elt F) (Rect.unit (s := S1x128x384) ![0, 0, 0] S1x128x384.size inb_S1x128x384_S1x128x384_0_0_0).toLoadRect (harg5.unread x3)) h = headQ (k0_pay4 xs0 x2) x3 h := fun h => by rw [e8, e2, e3]
  have eS : ∀ h : Fin 8, headS (k0_pay4 (arg8.view.readAt (Elt F) (Rect.unit (s := S1024x8192) ![0, 0] S1024x8192.size inb_S1024x8192_S1024x8192_0_0).toLoadRect (harg8.unread xs0)) (arg4.view.readAt (Elt F) (Rect.unit (s := S8192x512) ![0, 0] S8192x512.size inb_S8192x512_S8192x512_0_0).toLoadRect (harg4.unread x2))) (arg5.view.readAt (Elt F) (Rect.unit (s := S1x128x384) ![0, 0, 0] S1x128x384.size inb_S1x128x384_S1x128x384_0_0_0).toLoadRect (harg5.unread x3)) h = headS (k0_pay4 xs0 x2) x3 h := fun h => by rw [e8, e2, e3]
  isplitl [H4]
  · iexists _; isplitr; swap
    · iexact H4
    · ipureintro
      exact read_bands arg6.view f4 _ _ _ _ _ _ _ _ _ _
        ((band0 _ _ _).trans (eQ 0)) ((band1 _ _).trans (eQ 1)) ((band2 _ _).trans (eQ 2)) ((band3 _ _).trans (eQ 3))
        ((band4 _ _).trans (eQ 4)) ((band5 _ _).trans (eQ 5)) ((band6 _ _).trans (eQ 6)) ((band7 _ _).trans (eQ 7))
  isplitl [H5]
  · iexists _; isplitr; swap
    · iexact H5
    · ipureintro
      funext y
      refine (?_ : RowsLeft arg7.view (k0_pay4 xs0 x2) x3 8 _) f5 y (y 1).isLt
      refine rowsLeft_odd _ _ _ 6 7 rfl _ _ _ ((srow7 _ _).trans (eS 7)) _ _ rfl ?_
      refine rowsLeft_even _ _ _ 6 6 rfl _ _ _ ((srow6 _ _).trans (eS 6)) _ _ ?_
      refine rowsLeft_odd _ _ _ 4 5 rfl _ _ _ ((srow5 _ _).trans (eS 5)) _ _ rfl ?_
      refine rowsLeft_even _ _ _ 4 4 rfl _ _ _ ((srow4 _ _).trans (eS 4)) _ _ ?_
      refine rowsLeft_odd _ _ _ 2 3 rfl _ _ _ ((srow3 _ _).trans (eS 3)) _ _ rfl ?_
      refine rowsLeft_even _ _ _ 2 2 rfl _ _ _ ((srow2 _ _).trans (eS 2)) _ _ ?_
      refine rowsLeft_odd _ _ _ 0 1 rfl _ _ _ ((srow1 _ _).trans (eS 1)) _ _ rfl ?_
      refine rowsLeft_even _ _ _ 0 0 rfl _ _ _ ((srow0 _ _ _).trans (eS 0)) _ _ ?_
      exact rowsLeft_nil _ _ _
  iexists _; isplitr; · ipureintro; exact hfs0
  iexact HS0

end Cert.Kernel.Hand

end
-- ==== Proof.Kernel.Frame.lean ====
/- The frame of the program: what the body leaves at each grid point in closed form, the proof data of the pipeline, the body
   obligation at every point, and the run. -/
module

public import proofs.«01_k».proof.Proof.Kernel.RunA
public import proofs.«01_k».proof.Proof.Kernel.RunB
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The first point of the batch that point `n` belongs to. -/
def first (n : ℕ) (hn : n < cfg0.N) : Fin cfg0.N := ⟨n - n % 16, Nat.lt_of_le_of_lt (Nat.sub_le _ _) hn⟩

/-- The weight block carried after point `n`: the one its batch's first point computed. -/
def carried (c : Dev nD) (n : ℕ) (hn : n < cfg0.N) : Vec F S1024x8192 .bf16 :=
  k0_pay3 (iblk m c 1 (first n hn)) (iblk m c 0 (first n hn))

/-- At a batch's first point the carried block is computed from that point's own blocks. -/
theorem carried_first (c : Dev nD) (t : Fin cfg0.N) (h : t.val % 16 = 0) :
    carried m c t.val t.isLt = k0_pay3 (iblk m c 1 t) (iblk m c 0 t) := by
  have e : first t.val t.isLt = t := Fin.ext (show t.val - t.val % 16 = t.val by omega)
  unfold carried; rw [e]

/-- At any other point the carried block is the one of the point before. -/
theorem carried_step (c : Dev nD) (n : ℕ) (hn : n < cfg0.N) (h : ¬n % 16 = 0) (hn' : n - 1 < cfg0.N) :
    carried m c n hn = carried m c (n - 1) hn' := by
  have e : first n hn = first (n - 1) hn' := Fin.ext (show n - n % 16 = n - 1 - (n - 1) % 16 by omega)
  unfold carried; rw [e]

/-- The packed codes point `t` leaves. -/
def qAt (c : Dev nD) (t : Fin cfg0.N) : Vec F S1x512x512 .i8 := qBlock (k0_pay4 (carried m c t.val t.isLt) (iblk m c 2 t)) (iblk m c 3 t)

/-- The scales point `t` leaves. -/
def sAt (c : Dev nD) (t : Fin cfg0.N) : Vec F S1x8x512 .bf16 := sBlock (k0_pay4 (carried m c t.val t.isLt) (iblk m c 2 t)) (iblk m c 3 t)

/-- The invariant before position `n`: before the first point the scratch holds anything; afterwards the carried weight block. -/
def PhiS (c : Dev nD) : (n : ℕ) → n ≤ cfg0.N → sProp 𝕄
  | 0, _ => Pipeline.ΦA spec0 c
  | n + 1, hn => iprop(iprop(owns (c : Thread nD τ) scM0_0 fullShare (carried m c n hn)) ∗ (∃ r, prngReg c r))

/-- Before the first point the scratch holds anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (carried m c n hn)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (carried m c (n - 1) (by omega))) ∗ (∃ r, prngReg c r)) := by
  cases n with
  | zero => exact absurd rfl hz
  | succ n => rfl

/-! ## The pipeline's proof data -/

/-- The proof data of the pipeline: the arrays as the region finds them; after each point every input's buffer at its block and
    the outputs at the codes and the scales; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qAt m c t
    | ⟨5, _⟩ => sAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
/-- Window 1 after a point. -/
theorem after0_1 (c : Dev nD) (t : Fin cfg0.N) : (dats m 0 c).after 1 t = iblk m c 1 t := by dsimp only [dats]
/-- Window 2 after a point. -/
theorem after0_2 (c : Dev nD) (t : Fin cfg0.N) : (dats m 0 c).after 2 t = iblk m c 2 t := by dsimp only [dats]
/-- Window 3 after a point. -/
theorem after0_3 (c : Dev nD) (t : Fin cfg0.N) : (dats m 0 c).after 3 t = iblk m c 3 t := by dsimp only [dats]
/-- Window 4 after a point. -/
theorem after0_4 (c : Dev nD) (t : Fin cfg0.N) : (dats m 0 c).after 4 t = qAt m c t := by dsimp only [dats]
/-- Window 5 after a point. -/
theorem after0_5 (c : Dev nD) (t : Fin cfg0.N) : (dats m 0 c).after 5 t = sAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
/-- Input window 1 before a point holds its block. -/
theorem before0_1 (c : Dev nD) (t : Fin cfg0.N) (d) : (dats m 0 c).before 1 t d = iblk m c 1 t :=
  before0_1_of m (dats m 0 c) (A_eq m c 1) (after0_1 m c) t d
/-- Input window 2 before a point holds its block. -/
theorem before0_2 (c : Dev nD) (t : Fin cfg0.N) (d) : (dats m 0 c).before 2 t d = iblk m c 2 t :=
  before0_2_of m (dats m 0 c) (A_eq m c 2) (after0_2 m c) t d
/-- Input window 3 before a point holds its block. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant and the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point takes the invariant and the windows' buffers from before the point to after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  unfold qAt sAt
  by_cases h0 : t.val % 16 = 0
  · rw [carried_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases hz : t.val = 0
    · exact absurd (by rw [hz]) h0
    · rw [PhiS_castSucc m c t, PhiS_pos m c _ _ hz, carried_step m c t.val t.isLt h0 (Nat.lt_of_le_of_lt (Nat.sub_le _ _) t.isLt)]
      iintro ⟨⟨HS0, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ (fun h => h0 ((hcond0_0 t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 640 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run ends, leaves the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelIdeal.Heads.lean ====
/- The kernel body's arithmetic as plain functions of the blocks it reads: one head's rotation, largest magnitude, scale,
   codes and packed codes, and the two output blocks a grid point leaves. -/
module

public import proofs.«01_k».proof.Proof.Gen.KernelIdeal.Frame
public import Idealize.ShloMosaic.Lib.VecWindow
public import Idealize.ShloMosaic.Lib.Pointwise.Index

@[expose] public section

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- Head `h`'s 128 rows lie inside the 1024 rows of the product. -/
theorem slices_head (h : Fin 8) : S1024x512.Slices ![128 * h.val, 0] S128x512 :=
  ⟨rfl, fun a => by
    have := h.isLt
    fin_cases a
    · show 128 * h.val + 128 ≤ 1024; omega
    · show 0 + 512 ≤ 512; omega⟩

/-- Head `h`'s 128 rows of the product. -/
def rowsOf (acc : FVec F S1024x512 .f32) (h : Fin 8) : FVec F S128x512 .f32 :=
  extractStridedSlice S128x512 ![128 * h.val, 0] acc (slices_head h)

/-- What is left of `x` after its bf16 rounding is taken off. -/
def leftOver (x : FVec F S128x512 .f32) : FVec F S128x512 .f32 :=
  subf x (extf .f32 (truncf .bf16 x bitsLt_bf16_f32) bitsLt_bf16_f32)

/-- The three bf16 pieces of `x`, stacked along the rows. -/
def pieces (x : FVec F S128x512 .f32) : FVec F S384x512 .bf16 :=
  concatenate S384x512 0 [⟨S128x512, truncf .bf16 x bitsLt_bf16_f32⟩, ⟨S128x512, truncf .bf16 (leftOver x) bitsLt_bf16_f32⟩,
    ⟨S128x512, truncf .bf16 (leftOver (leftOver x)) bitsLt_bf16_f32⟩] concatenates_S128x512_S128x512_S128x512_S384x512_d0

/-- One head's rotated rows: the batch's stacked rotation times the three pieces. -/
def rotOf (x : FVec F S128x512 .f32) (r : Vec F S1x128x384 .bf16) : FVec F S128x512 .f32 :=
  matmul dot_S128x384_S384x512_S128x512_1_0_0_1_n_n none (shapeCast S128x384 r shapeCasts_S1x128x384_S128x384 : FVec F S128x384 .bf16) (pieces x)
    (constant S128x512 .f32 0x00000000#32)

/-- The largest magnitude of each column of a head's rotated rows. -/
def amaxOf (rot : FVec F S128x512 .f32) : FVec F S1x512 .f32 :=
  shapeCast S1x512 (multiReduction .maximumf [0] S512 (absf rot) 0xFF800000#32 reduces_S128x512_S512 (.inl rfl) rfl) shapeCasts_S512_S1x512

/-- The bf16 scale of each column: one where the column is zero, a seventh of its largest magnitude elsewhere. -/
def scaleOf (am : FVec F S1x512 .f32) : FVec F S1x512 .bf16 :=
  truncf .bf16 (select (cmpf .oeq am (broadcast S1x512 (Scalar.ofBits .f32 0x00000000#32 : F .f32)))
    (broadcast S1x512 (Scalar.ofBits .f32 0x3F800000#32 : F .f32))
    (divf am (broadcast S1x512 (Scalar.ofBits .f32 0x40E00000#32 : F .f32)))) bitsLt_bf16_f32

/-- A head's int4 codes: each rotated entry over its column's scale, rounded and clamped to [-7, 7]. -/
def codesOf (rot : FVec F S128x512 .f32) (sc : FVec F S1x512 .bf16) : IVec S128x512 32 :=
  fptosi 32 (minimumf (broadcast S128x512 (Scalar.ofBits .f32 0x40E00000#32 : F .f32))
    (maximumf (broadcast S128x512 (Scalar.ofBits .f32 0xC0E00000#32 : F .f32))
      (roundeven (divf rot (broadcastTo S128x512 (extf .f32 sc bitsLt_bf16_f32 : FVec F S1x512 .f32) broadcasts_S1x512_S128x512)))))

/-- The low nibbles of a head's first 64 rows with those of its last 64 rows above them, a byte each. -/
def packOf (q : IVec S128x512 32) : IVec S1x64x512 8 :=
  shapeCast S1x64x512 (trunci 8 (ori
    (andi (extractStridedSlice S64x512 ![0, 0] q slices_S128x512_o0_0_S64x512) (broadcast S64x512 15#32))
    (shli (andi (extractStridedSlice S64x512 ![64, 0] q slices_S128x512_o64_0_S64x512) (broadcast S64x512 15#32)) (broadcast S64x512 4#32))) natLt_8_32)
    shapeCasts_S64x512_S1x64x512

/-- The scale row a head stores. -/
def headS (acc : FVec F S1024x512 .f32) (r : Vec F S1x128x384 .bf16) (h : Fin 8) : FVec F S1x1x512 .bf16 :=
  shapeCast S1x1x512 (scaleOf (amaxOf (rotOf (rowsOf acc h) r))) shapeCasts_S1x512_S1x1x512

/-- The 64 rows of packed codes a head stores. -/
def headQ (acc : FVec F S1024x512 .f32) (r : Vec F S1x128x384 .bf16) (h : Fin 8) : IVec S1x64x512 8 :=
  packOf (codesOf (rotOf (rowsOf acc h) r) (scaleOf (amaxOf (rotOf (rowsOf acc h) r))))

/-- The block of packed codes a grid point leaves: row `64 h + k` is row `k` of head `h`'s. -/
def qBlock (acc : FVec F S1024x512 .f32) (r : Vec F S1x128x384 .bf16) : Vec F S1x512x512 .i8 := fun y =>
  headQ acc r ⟨(y 1).val / 64, by have h : (y 1).val < 512 := (y 1).isLt; omega⟩
    (ix3 (n0 := 1) (n1 := 64) (n2 := 512) 0 ⟨(y 1).val % 64, Nat.mod_lt _ (by decide)⟩ (y 2))

/-- The block of scales a grid point leaves: row `h` is head `h`'s. -/
def sBlock (acc : FVec F S1024x512 .f32) (r : Vec F S1x128x384 .bf16) : Vec F S1x8x512 .bf16 := fun y =>
  headS acc r (y 1) (ix3 (n0 := 1) (n1 := 1) (n2 := 512) 0 0 (y 2))

end Cert.KernelIdeal.Hand

end
-- ==== Proof.KernelIdeal.Setup.lean ====
/- The branch condition of the body at a grid point, and names for the staging memrefs and the carried scratch. -/
module

public import proofs.«01_k».proof.Proof.KernelIdeal.Heads
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 640 := Nat.lt_of_lt_of_eq t.isLt N_0
    have e0 : (grid0.coords t 0).val = t.val / 16 % 40 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The staging memrefs -/

/-- Each window's current staging memref at point `t`, spelled as the pipeline passes it (`bodyAt0`), and its wholeness. -/
abbrev ms0_0 (t : Fin cfg0.N) : Memref sig .tc .vmem S1x1024x8192 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x8192 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KernelIdeal.Payloads.lean ====
/- Each head's printed arithmetic is the one head function at that head: stage by stage, the rotated rows, the scale, and what
   is stored. -/
module

public import proofs.«01_k».proof.Proof.KernelIdeal.Heads
public import proofs.«01_k».proof.Proof.Gen.KernelIdeal.Skeleton

@[expose] public section

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (w : Vec F S1024x8192 .bf16) (a : Vec F S8192x512 .bf16) (acc : FVec F S1024x512 .f32) (r : Vec F S1x128x384 .bf16)

/-! ## The rotated rows -/

/-- Head 0's rotated rows, as printed. -/
theorem rot0 : k0_pay5 w a r = rotOf (rowsOf (k0_pay4 w a) 0) r := rfl
/-- Head 1's rotated rows, as printed. -/
theorem rot1 : k0_pay12 acc r = rotOf (rowsOf acc 1) r := rfl
/-- Head 2's rotated rows, as printed. -/
theorem rot2 : k0_pay17 acc r = rotOf (rowsOf acc 2) r := rfl
/-- Head 3's rotated rows, as printed. -/
theorem rot3 : k0_pay25 acc r = rotOf (rowsOf acc 3) r := rfl
/-- Head 4's rotated rows, as printed. -/
theorem rot4 : k0_pay31 (k0_pay30 acc) r = rotOf (rowsOf acc 4) r := rfl
/-- Head 5's rotated rows, as printed. -/
theorem rot5 : k0_pay38 (k0_pay36 acc) (k0_pay37 acc) r = rotOf (rowsOf acc 5) r := rfl
/-- Head 6's rotated rows, as printed. -/
theorem rot6 : k0_pay42 acc r = rotOf (rowsOf acc 6) r := rfl
/-- Head 7's rotated rows, as printed. -/
theorem rot7 : k0_pay47 acc r = rotOf (rowsOf acc 7) r := rfl

/-! ## The scales -/

/-- Head 0's scale from its rotated rows, as printed. -/
theorem scale0 : k0_pay6 w a r = scaleOf (amaxOf (k0_pay5 w a r)) := rfl
/-- Head 1's scale from its rotated rows, as printed. -/
theorem scale1 : k0_pay13 acc r = scaleOf (amaxOf (k0_pay12 acc r)) := rfl
/-- Head 2's scale from its rotated rows, as printed. -/
theorem scale2 : k0_pay22 (k0_pay19 acc r) (k0_pay20 acc r) k0_pay21 = scaleOf (amaxOf (k0_pay17 acc r)) := rfl
/-- Head 3's scale from its rotated rows, as printed. -/
theorem scale3 : k0_pay27 (k0_pay26 acc r) = scaleOf (amaxOf (k0_pay25 acc r)) := rfl
/-- Head 4's scale from its rotated rows, as printed. -/
theorem scale4 (p : FVec F S384x512 .bf16) : k0_pay32 p r = scaleOf (amaxOf (k0_pay31 p r)) := rfl
/-- Head 5's scale from its rotated rows, as printed. -/
theorem scale5 (p : FVec F S128x512 .bf16) (x : FVec F S128x512 .f32) : k0_pay39 p x r = scaleOf (amaxOf (k0_pay38 p x r)) := rfl
/-- Head 6's scale from its rotated rows, as printed. -/
theorem scale6 : k0_pay43 acc r = scaleOf (amaxOf (k0_pay42 acc r)) := rfl
/-- Head 7's scale from its rotated rows, as printed. -/
theorem scale7 : k0_pay48 acc r = scaleOf (amaxOf (k0_pay47 acc r)) := rfl

/-! ## The scale rows stored -/

/-- The scale row head 0 stores, as printed. -/
theorem srow0 : k0_pay11 (k0_pay6 w a r) = headS (k0_pay4 w a) r 0 := by rw [scale0, rot0]; rfl
/-- The scale row head 1 stores, as printed. -/
theorem srow1 : k0_pay16 (k0_pay13 acc r) = headS acc r 1 := by rw [scale1, rot1]; rfl
/-- The scale row head 2 stores, as printed. -/
theorem srow2 : k0_pay24 (k0_pay19 acc r) (k0_pay20 acc r) k0_pay21 = headS acc r 2 := by
  unfold k0_pay24 headS; rw [scale2, rot2]
/-- The scale row head 3 stores, as printed. -/
theorem srow3 : k0_pay29 (k0_pay26 acc r) = headS acc r 3 := by unfold k0_pay29 headS; rw [scale3, rot3]
/-- The scale row head 4 stores, as printed. -/
theorem srow4 : k0_pay34 (k0_pay30 acc) r = headS acc r 4 := by unfold k0_pay34 headS; rw [scale4, rot4]
/-- The scale row head 5 stores, as printed. -/
theorem srow5 : k0_pay41 (k0_pay39 (k0_pay36 acc) (k0_pay37 acc) r) = headS acc r 5 := by rw [scale5, rot5]; rfl
/-- The scale row head 6 stores, as printed. -/
theorem srow6 : k0_pay46 (k0_pay43 acc r) = headS acc r 6 := by rw [scale6, rot6]; rfl
/-- The scale row head 7 stores, as printed. -/
theorem srow7 : k0_pay2 (k0_pay48 acc r) = headS acc r 7 := by rw [scale7, rot7]; rfl

/-! ## The packed codes stored -/

/-- The packed codes head 0 stores, as printed. -/
theorem band0 : k0_pay10 (k0_pay7 w a r) (k0_pay8 w a r) k0_pay9 = headQ (k0_pay4 w a) r 0 := by
  unfold headQ
  rw [← rot0, ← scale0]
  generalize e : codesOf (k0_pay5 w a r) (k0_pay6 w a r) = q
  have e' : k0_pay7 w a r = q := by rw [← e]; rfl
  unfold k0_pay8
  rw [e']
  rfl
/-- The packed codes head 1 stores, as printed. -/
theorem band1 : k0_pay15 (k0_pay14 acc r) (Scalar.ofBits .f32 0xC0E00000#32) (Scalar.ofBits .f32 0x40E00000#32) = headQ acc r 1 := by
  unfold headQ
  rw [← rot1, ← scale1]
  rfl
/-- The packed codes head 2 stores, as printed. -/
theorem band2 : k0_pay23 (k0_pay17 acc r) (k0_pay19 acc r) (k0_pay20 acc r) k0_pay21 = headQ acc r 2 := by
  unfold headQ k0_pay23
  rw [← rot2, scale2]
  rfl
/-- The packed codes head 3 stores, as printed. -/
theorem band3 : k0_pay28 (k0_pay25 acc r) (k0_pay26 acc r) = headQ acc r 3 := by
  unfold headQ k0_pay28
  rw [← rot3, scale3]
  rfl
/-- The packed codes head 4 stores, as printed. -/
theorem band4 : k0_pay33 (k0_pay30 acc) r = headQ acc r 4 := by
  unfold headQ k0_pay33
  rw [← rot4, scale4]
  rfl
/-- The packed codes head 5 stores, as printed. -/
theorem band5 : k0_pay40 (k0_pay36 acc) (k0_pay37 acc) r = headQ acc r 5 := by
  unfold headQ k0_pay40
  rw [← rot5, scale5]
  rfl
/-- The packed codes head 6 stores, as printed. -/
theorem band6 : k0_pay45 (k0_pay44 acc r) = headQ acc r 6 := by
  unfold headQ
  rw [← rot6, ← scale6]
  rfl
/-- The packed codes head 7 stores, as printed. -/
theorem band7 : k0_pay1 (k0_pay50 acc r) (k0_pay51 acc r) k0_pay52 = headQ acc r 7 := by
  unfold headQ
  rw [← rot7, ← scale7]
  generalize e : codesOf (k0_pay47 acc r) (k0_pay48 acc r) = q
  have e' : k0_pay49 acc r = q := by rw [← e]; rfl
  unfold k0_pay50 k0_pay51
  rw [e']
  rfl

end Cert.KernelIdeal.Hand

end
-- ==== Proof.KernelIdeal.Pieces.lean ====
/- What the two output blocks hold after a grid point's stores: eight bands of packed codes, and eight scale rows each stored
   by rewriting the pair of rows it lies in. -/
module

public import proofs.«01_k».proof.Proof.KernelIdeal.Setup
public import proofs.«01_k».proof.Proof.KernelIdeal.Payloads

@[expose] public section

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- A load of a whole staging memref's own sizes reads the contents it was given. -/
theorem readAt_unread {s : Shape} {e : EltTy} (m : Memref sig .tc .vmem s e) (hm : m.IsWhole) (x : s.Idx → Elt F e) {off : Fin s.rank → ℕ}
    (inb : ∀ a, off a + s.size a ≤ s.size a) :
    m.view.readAt (Elt F) (Rect.unit off s.size inb).toLoadRect (hm.unread x) = x := by
  rw [View.readAt_full]
  exact hm.read_unread x

section Bands

variable {κ : Kind} {sp : Space} (v : View sig κ sp S1x512x512 .i8) (f : v.ty.Contents (Elt F))

/-- One band of 64 rows stored over a list of earlier stores: inside the band the block reads the band, elsewhere what the
    earlier stores left. -/
theorem read_band (o : ℕ) (inb : ∀ a, (![0, o, 0] : Fin 3 → ℕ) a + S1x64x512.size a ≤ S1x512x512.size a) (w : IVec S1x64x512 8)
    (L : List (View.Piece (Elt F) S1x512x512 .i8)) (y : S1x512x512.Idx) :
    v.read (Elt F) (v.writes (Elt F) f (⟨Rect.unit ![0, o, 0] S1x64x512.size inb, w⟩ :: L)) y
      = if h : o ≤ (y 1).val ∧ (y 1).val < o + 64 then
          w (ix3 (n0 := 1) (n1 := 64) (n2 := 512) 0 ⟨(y 1).val - o, by omega⟩ (y 2))
        else v.read (Elt F) (v.writes (Elt F) f L) y := by
  by_cases h : o ≤ (y 1).val ∧ (y 1).val < o + 64
  · rw [dif_pos h]
    refine View.read_writes_cons_hit_of_coords v f (Rect.unit ![0, o, 0] S1x64x512.size inb) w L _ y fun a => ?_
    fin_cases a
    · show (y 0).val = 0 + 1 * 0
      have : (y 0).val < 1 := (y 0).isLt
      omega
    · show (y 1).val = o + 1 * ((y 1).val - o); omega
    · show (y 2).val = 0 + 1 * (y 2).val; omega
  · rw [dif_neg h]
    exact View.read_writes_cons_miss_of_axis v f _ L y 1 o 64 rfl rfl rfl (by omega)

/-- The eight bands of 64 rows together are the block of packed codes. -/
theorem read_bands (acc : FVec F S1024x512 .f32) (r : Vec F S1x128x384 .bf16) (w0 w1 w2 w3 w4 w5 w6 w7 : IVec S1x64x512 8)
    (e0 : w0 = headQ acc r 0) (e1 : w1 = headQ acc r 1) (e2 : w2 = headQ acc r 2) (e3 : w3 = headQ acc r 3)
    (e4 : w4 = headQ acc r 4) (e5 : w5 = headQ acc r 5) (e6 : w6 = headQ acc r 6) (e7 : w7 = headQ acc r 7) :
    v.read (Elt F) (v.writes (Elt F) f
      [⟨Rect.unit ![0, 448, 0] S1x64x512.size inb_S1x512x512_S1x64x512_0_448_0, w7⟩,
       ⟨Rect.unit ![0, 384, 0] S1x64x512.size inb_S1x512x512_S1x64x512_0_384_0, w6⟩,
       ⟨Rect.unit ![0, 320, 0] S1x64x512.size inb_S1x512x512_S1x64x512_0_320_0, w5⟩,
       ⟨Rect.unit ![0, 256, 0] S1x64x512.size inb_S1x512x512_S1x64x512_0_256_0, w4⟩,
       ⟨Rect.unit ![0, 192, 0] S1x64x512.size inb_S1x512x512_S1x64x512_0_192_0, w3⟩,
       ⟨Rect.unit ![0, 128, 0] S1x64x512.size inb_S1x512x512_S1x64x512_0_128_0, w2⟩,
       ⟨Rect.unit ![0, 64, 0] S1x64x512.size inb_S1x512x512_S1x64x512_0_64_0, w1⟩,
       ⟨Rect.unit ![0, 0, 0] S1x64x512.size inb_S1x512x512_S1x64x512_0_0_0, w0⟩]) = qBlock acc r := by
  subst e0 e1 e2 e3 e4 e5 e6 e7
  funext y
  have hy : (y 1).val < 512 := (y 1).isLt
  have key : ∀ (h : Fin 8) (k : Fin 64), (y 1).val = 64 * h.val + k.val →
      headQ acc r h (ix3 (n0 := 1) (n1 := 64) (n2 := 512) 0 k (y 2)) = qBlock acc r y := fun h k e => by
    have e1 : (⟨(y 1).val / 64, by omega⟩ : Fin 8) = h := Fin.ext (by have := k.isLt; show (y 1).val / 64 = h.val; omega)
    have e2 : (⟨(y 1).val % 64, Nat.mod_lt _ (by decide)⟩ : Fin 64) = k := Fin.ext (by have := k.isLt; show (y 1).val % 64 = k.val; omega)
    unfold qBlock
    rw [e1, e2]
  rw [read_band, read_band, read_band, read_band, read_band, read_band, read_band, read_band]
  split_ifs with h7 h6 h5 h4 h3 h2 h1 h0
  · exact key 7 _ (by show (y 1).val = 64 * 7 + ((y 1).val - 448); omega)
  · exact key 6 _ (by show (y 1).val = 64 * 6 + ((y 1).val - 384); omega)
  · exact key 5 _ (by show (y 1).val = 64 * 5 + ((y 1).val - 320); omega)
  · exact key 4 _ (by show (y 1).val = 64 * 4 + ((y 1).val - 256); omega)
  · exact key 3 _ (by show (y 1).val = 64 * 3 + ((y 1).val - 192); omega)
  · exact key 2 _ (by show (y 1).val = 64 * 2 + ((y 1).val - 128); omega)
  · exact key 1 _ (by show (y 1).val = 64 * 1 + ((y 1).val - 64); omega)
  · exact key 0 _ (by show (y 1).val = 64 * 0 + ((y 1).val - 0); omega)
  · omega

end Bands

section Rows

variable {κ : Kind} {sp : Space} (v : View sig κ sp S1x8x512 .bf16)

/-- The list of stores `L` leaves the first `n` rows of the block of scales, whatever was there before. -/
def RowsLeft (acc : FVec F S1024x512 .f32) (r : Vec F S1x128x384 .bf16) (n : ℕ) (L : List (View.Piece (Elt F) S1x8x512 .bf16)) : Prop :=
  ∀ (f : v.ty.Contents (Elt F)) (y : S1x8x512.Idx), (y 1).val < n → v.read (Elt F) (v.writes (Elt F) f L) y = sBlock acc r y

/-- No store leaves no row. -/
theorem rowsLeft_nil (acc : FVec F S1024x512 .f32) (r : Vec F S1x128x384 .bf16) : RowsLeft v acc r 0 [] :=
  fun _ _ hy => absurd hy (Nat.not_lt_zero _)

/-- A pair of rows stored over earlier stores, one of the two rewritten: the rewritten row reads what was stored, its partner
    what the pair held, and every other row what it read before. -/
theorem read_pair (f : v.ty.Contents (Elt F)) (o p : ℕ) (hp : p < 2) (inb : ∀ a, (![0, o, 0] : Fin 3 → ℕ) a + S1x2x512.size a ≤ S1x8x512.size a)
    (hs : S1x2x512.Slices ![0, p, 0] S1x1x512) (w : FVec F S1x1x512 .bf16)
    (L : List (View.Piece (Elt F) S1x8x512 .bf16)) (old : S1x2x512.Idx → Elt F .bf16) (y : S1x8x512.Idx) :
    v.read (Elt F) (v.writes (Elt F) f (⟨Rect.unit ![0, o, 0] S1x2x512.size inb, updateSlice old w ![0, p, 0] hs⟩ :: L)) y
      = if h : o ≤ (y 1).val ∧ (y 1).val < o + 2 then
          if (y 1).val = o + p then w (ix3 (n0 := 1) (n1 := 1) (n2 := 512) 0 0 (y 2))
          else old (ix3 (n0 := 1) (n1 := 2) (n2 := 512) 0 ⟨(y 1).val - o, by omega⟩ (y 2))
        else v.read (Elt F) (v.writes (Elt F) f L) y := by
  by_cases h : o ≤ (y 1).val ∧ (y 1).val < o + 2
  · rw [dif_pos h, View.read_writes_cons_hit_of_coords v f (Rect.unit ![0, o, 0] S1x2x512.size inb) _ L
      (ix3 (n0 := 1) (n1 := 2) (n2 := 512) 0 ⟨(y 1).val - o, by omega⟩ (y 2)) y (fun a => by
        fin_cases a
        · show (y 0).val = 0 + 1 * 0
          have : (y 0).val < 1 := (y 0).isLt
          omega
        · show (y 1).val = o + 1 * ((y 1).val - o); omega
        · show (y 2).val = 0 + 1 * (y 2).val; omega)]
    unfold updateSlice
    by_cases e : (y 1).val = o + p
    · rw [if_pos e, dif_pos (fun a => by
        fin_cases a
        · show 0 ≤ 0 ∧ 0 < 0 + 1; omega
        · show p ≤ (y 1).val - o ∧ (y 1).val - o < p + 1; omega
        · have : (y 2).val < 512 := (y 2).isLt
          show 0 ≤ (y 2).val ∧ (y 2).val < 0 + 512; omega)]
      congr 1
      funext a
      fin_cases a
      · exact Fin.ext (show 0 - 0 = 0 from rfl)
      · exact Fin.ext (show (y 1).val - o - p = 0 by omega)
      · exact Fin.ext (show (y 2).val - 0 = (y 2).val by omega)
    · rw [if_neg e, dif_neg (fun hall => by
        have h1 : p ≤ (y 1).val - o ∧ (y 1).val - o < p + 1 := hall 1
        omega)]
  · rw [dif_neg h]
    exact View.read_writes_cons_miss_of_axis v f _ L y 1 o 2 rfl rfl rfl (by omega)

/-- The first row of a pair stored: one row more is left. What the pair held before does not matter, its second row being
    stored later. -/
theorem rowsLeft_even (acc : FVec F S1024x512 .f32) (r : Vec F S1x128x384 .bf16) (o : ℕ) (h : Fin 8) (ho : h.val = o)
    (inb : ∀ a, (![0, o, 0] : Fin 3 → ℕ) a + S1x2x512.size a ≤ S1x8x512.size a)
    (hs : S1x2x512.Slices ![0, 0, 0] S1x1x512) (w : FVec F S1x1x512 .bf16) (hw : w = headS acc r h)
    (L : List (View.Piece (Elt F) S1x8x512 .bf16)) (old : S1x2x512.Idx → Elt F .bf16) (hL : RowsLeft v acc r o L) :
    RowsLeft v acc r (o + 1) (⟨Rect.unit ![0, o, 0] S1x2x512.size inb, updateSlice old w ![0, 0, 0] hs⟩ :: L) := fun f y hy => by
  rw [read_pair v f o 0 (by decide) inb hs w L old y]
  by_cases e : o ≤ (y 1).val ∧ (y 1).val < o + 2
  · rw [dif_pos e, if_pos (by omega), hw]
    have e1 : (y 1 : Fin 8) = h := Fin.ext (show (y 1).val = h.val by omega)
    unfold sBlock
    rw [e1]
  · rw [dif_neg e]
    exact hL f y (by omega)

/-- The second row of a pair stored, the pair having held what the earlier stores left: one row more is left. -/
theorem rowsLeft_odd (acc : FVec F S1024x512 .f32) (r : Vec F S1x128x384 .bf16) (o : ℕ) (h : Fin 8) (ho : h.val = o + 1)
    (inb : ∀ a, (![0, o, 0] : Fin 3 → ℕ) a + S1x2x512.size a ≤ S1x8x512.size a)
    (hs : S1x2x512.Slices ![0, 1, 0] S1x1x512) (w : FVec F S1x1x512 .bf16) (hw : w = headS acc r h)
    (L : List (View.Piece (Elt F) S1x8x512 .bf16)) (old : S1x2x512.Idx → Elt F .bf16)
    (hold : old = v.readCov L (Rect.unit (s := S1x8x512) ![0, o, 0] S1x2x512.size inb).toLoadRect) (hL : RowsLeft v acc r (o + 1) L) :
    RowsLeft v acc r (o + 2) (⟨Rect.unit ![0, o, 0] S1x2x512.size inb, updateSlice old w ![0, 1, 0] hs⟩ :: L) := fun f y hy => by
  rw [read_pair v f o 1 (by decide) inb hs w L old y]
  by_cases e : o ≤ (y 1).val ∧ (y 1).val < o + 2
  · rw [dif_pos e]
    by_cases e' : (y 1).val = o + 1
    · rw [if_pos e', hw]
      have e1 : (y 1 : Fin 8) = h := Fin.ext (e'.trans ho.symm)
      unfold sBlock
      rw [e1]
    · rw [if_neg e', hold]
      refine Eq.trans ?_ (hL v.junk y (by omega))
      show v.read (Elt F) (v.writes (Elt F) v.junk L) ((Rect.unit (s := S1x8x512) ![0, o, 0] S1x2x512.size inb).emb _) = _
      congr 1
      funext a
      fin_cases a
      · exact Fin.ext (by
          have : (y 0).val < 1 := (y 0).isLt
          show 0 + 1 * 0 = (y 0).val
          omega)
      · exact Fin.ext (by show o + 1 * ((y 1).val - o) = (y 1).val; omega)
      · exact Fin.ext (by show 0 + 1 * (y 2).val = (y 2).val; omega)
  · rw [dif_neg e]
    exact hL f y (by omega)

end Rows

end Cert.KernelIdeal.Hand

end
-- ==== Proof.KernelIdeal.RunA.lean ====
/- The body at a grid point that computes the carried weight block: that block and its two output blocks from its input blocks. -/
module

public import proofs.«01_k».proof.Proof.KernelIdeal.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A load of a whole memref right after it was stored whole reads what was stored. -/
theorem read_stored {κ : Kind} {sp : Space} {s : Shape} {e : EltTy} (v : View sig κ sp s e) {off : Fin s.rank → ℕ}
    (inb : ∀ a, off a + s.size a ≤ s.size a) (w : s.Idx → Elt F e) :
    v.readCov (Val := Elt F) [⟨Rect.unit off s.size inb, w⟩] (Rect.unit off s.size inb).toLoadRect = w :=
  View.readCov_full v inb inb w []

/-- A whole memref after it was stored whole holds what was stored. -/
theorem stored_holds {κ : Kind} {sp : Space} {s : Shape} {e : EltTy} (v : View sig κ sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w :=
  View.read_writes_full v f inb w []

set_option maxHeartbeats 1000000 in
/-- The body at the first point of a batch: the scratch is left holding the batch's dequantised weight block, and the two output
    blocks are the packed codes and the scales of the product of that block with the point's columns. -/
theorem runA (c : Dev nD) (i : grid0.Coords) (arg2 : Memref sig .tc .vmem S1x1024x8192 .i8) (harg2 : arg2.IsWhole) (arg3 : Memref sig .tc .vmem S1x1x8192 .f32) (harg3 : arg3.IsWhole) (arg4 : Memref sig .tc .vmem S8192x512 .bf16) (harg4 : arg4.IsWhole) (arg5 : Memref sig .tc .vmem S1x128x384 .bf16) (harg5 : arg5.IsWhole) (arg6 : Memref sig .tc .vmem S1x512x512 .i8) (harg6 : arg6.IsWhole) (arg7 : Memref sig .tc .vmem S1x8x512 .bf16) (harg7 : arg7.IsWhole) (arg8 : Memref sig .tc .vmem S1024x8192 .bf16) (harg8 : arg8.IsWhole) (hc0 : cond0_0 i)
    (x0 : Vec F S1x1024x8192 .i8) (x1 : Vec F S1x1x8192 .f32) (x2 : Vec F S8192x512 .bf16) (x3 : Vec F S1x128x384 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (qBlock (k0_pay4 (k0_pay3 x1 x0) x2) x3) ∗ owns (c : Thread nD τ) arg7 fullShare (sBlock (k0_pay4 (k0_pay3 x1 x0) x2) x3) ∗ owns (c : Thread nD τ) arg8 fullShare (k0_pay3 x1 x0)) -∗ K ⟨⟩))
      ⊢ wp frame (wpE (defs₀ (F := F)) Variants.none c none) E (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  have e2 : arg4.view.readAt (Elt F) (Rect.unit (s := S8192x512) ![0, 0] S8192x512.size inb_S8192x512_S8192x512_0_0).toLoadRect (harg4.unread x2) = x2 :=
    readAt_unread arg4 harg4 x2 inb_S8192x512_S8192x512_0_0
  have e3 : arg5.view.readAt (Elt F) (Rect.unit (s := S1x128x384) ![0, 0, 0] S1x128x384.size inb_S1x128x384_S1x128x384_0_0_0).toLoadRect (harg5.unread x3) = x3 :=
    readAt_unread arg5 harg5 x3 inb_S1x128x384_S1x128x384_0_0_0
  have e0 : (arg2.view.readAt (Elt F) (Rect.unit (s := S1x1024x8192) ![0, 0, 0] S1x1024x8192.size inb_S1x1024x8192_S1x1024x8192_0_0_0).toLoadRect (harg2.unread x0)) = x0 := readAt_unread arg2 harg2 x0 inb_S1x1024x8192_S1x1024x8192_0_0_0
  have e1 : (arg3.view.readAt (Elt F) (Rect.unit (s := S1x1x8192) ![0, 0, 0] S1x1x8192.size inb_S1x1x8192_S1x1x8192_0_0_0).toLoadRect (harg3.unread x1)) = x1 := readAt_unread arg3 harg3 x1 inb_S1x1x8192_S1x1x8192_0_0_0
  have ew : k0_pay3 (arg3.view.readAt (Elt F) (Rect.unit (s := S1x1x8192) ![0, 0, 0] S1x1x8192.size inb_S1x1x8192_S1x1x8192_0_0_0).toLoadRect (harg3.unread x1)) (arg2.view.readAt (Elt F) (Rect.unit (s := S1x1024x8192) ![0, 0, 0] S1x1024x8192.size inb_S1x1024x8192_S1x1024x8192_0_0_0).toLoadRect (harg2.unread x0)) = k0_pay3 x1 x0 := by rw [e0, e1]
  have e8 : runA.sl.v3 c arg2 harg2 arg3 harg3 arg8 x0 x1 = k0_pay3 x1 x0 := by
    rw [← ew]
    unfold runA.sl.v3 runA.sl.HS0_1
    generalize k0_pay3 (F := F) _ _ = w
    exact read_stored arg8.view inb_S1024x8192_S1024x8192_0_0 w
  have eQ : ∀ h : Fin 8, headQ (k0_pay4 (runA.sl.v3 c arg2 harg2 arg3 harg3 arg8 x0 x1) (arg4.view.readAt (Elt F) (Rect.unit (s := S8192x512) ![0, 0] S8192x512.size inb_S8192x512_S8192x512_0_0).toLoadRect (harg4.unread x2))) (arg5.view.readAt (Elt F) (Rect.unit (s := S1x128x384) ![0, 0, 0] S1x128x384.size inb_S1x128x384_S1x128x384_0_0_0).toLoadRect (harg5.unread x3)) h = headQ (k0_pay4 (k0_pay3 x1 x0) x2) x3 h := fun h => by rw [e8, e2, e3]
  have eS : ∀ h : Fin 8, headS (k0_pay4 (runA.sl.v3 c arg2 harg2 arg3 harg3 arg8 x0 x1) (arg4.view.readAt (Elt F) (Rect.unit (s := S8192x512) ![0, 0] S8192x512.size inb_S8192x512_S8192x512_0_0).toLoadRect (harg4.unread x2))) (arg5.view.readAt (Elt F) (Rect.unit (s := S1x128x384) ![0, 0, 0] S1x128x384.size inb_S1x128x384_S1x128x384_0_0_0).toLoadRect (harg5.unread x3)) h = headS (k0_pay4 (k0_pay3 x1 x0) x2) x3 h := fun h => by rw [e8, e2, e3]
  isplitl [H4]
  · iexists _; isplitr; swap
    · iexact H4
    · ipureintro
      exact read_bands arg6.view f4 _ _ _ _ _ _ _ _ _ _
        ((band0 _ _ _).trans (eQ 0)) ((band1 _ _).trans (eQ 1)) ((band2 _ _).trans (eQ 2)) ((band3 _ _).trans (eQ 3))
        ((band4 _ _).trans (eQ 4)) ((band5 _ _).trans (eQ 5)) ((band6 _ _).trans (eQ 6)) ((band7 _ _).trans (eQ 7))
  isplitl [H5]
  · iexists _; isplitr; swap
    · iexact H5
    · ipureintro
      funext y
      refine (?_ : RowsLeft arg7.view (k0_pay4 (k0_pay3 x1 x0) x2) x3 8 _) f5 y (y 1).isLt
      refine rowsLeft_odd _ _ _ 6 7 rfl _ _ _ ((srow7 _ _).trans (eS 7)) _ _ rfl ?_
      refine rowsLeft_even _ _ _ 6 6 rfl _ _ _ ((srow6 _ _).trans (eS 6)) _ _ ?_
      refine rowsLeft_odd _ _ _ 4 5 rfl _ _ _ ((srow5 _ _).trans (eS 5)) _ _ rfl ?_
      refine rowsLeft_even _ _ _ 4 4 rfl _ _ _ ((srow4 _ _).trans (eS 4)) _ _ ?_
      refine rowsLeft_odd _ _ _ 2 3 rfl _ _ _ ((srow3 _ _).trans (eS 3)) _ _ rfl ?_
      refine rowsLeft_even _ _ _ 2 2 rfl _ _ _ ((srow2 _ _).trans (eS 2)) _ _ ?_
      refine rowsLeft_odd _ _ _ 0 1 rfl _ _ _ ((srow1 _ _).trans (eS 1)) _ _ rfl ?_
      refine rowsLeft_even _ _ _ 0 0 rfl _ _ _ ((srow0 _ _ _).trans (eS 0)) _ _ ?_
      exact rowsLeft_nil _ _ _
  iexists _; isplitr; swap
  · iexact HS0
  · ipureintro
    rw [← ew]
    unfold runA.sl.HS0_1
    generalize k0_pay3 (F := F) _ _ = w
    exact stored_holds arg8.view fs0 inb_S1024x8192_S1024x8192_0_0 w

end Cert.KernelIdeal.Hand

end
-- ==== Proof.KernelIdeal.RunB.lean ====
/- The body at a grid point that keeps the carried weight block: its two output blocks from its input blocks. -/
module

public import proofs.«01_k».proof.Proof.KernelIdeal.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point that is not the first of its batch: the weight block carried in the scratch stays, and the two output
    blocks are the packed codes and the scales of the product of that block with the point's columns. -/
theorem runB (c : Dev nD) (i : grid0.Coords) (arg2 : Memref sig .tc .vmem S1x1024x8192 .i8) (harg2 : arg2.IsWhole) (arg3 : Memref sig .tc .vmem S1x1x8192 .f32) (harg3 : arg3.IsWhole) (arg4 : Memref sig .tc .vmem S8192x512 .bf16) (harg4 : arg4.IsWhole) (arg5 : Memref sig .tc .vmem S1x128x384 .bf16) (harg5 : arg5.IsWhole) (arg6 : Memref sig .tc .vmem S1x512x512 .i8) (harg6 : arg6.IsWhole) (arg7 : Memref sig .tc .vmem S1x8x512 .bf16) (harg7 : arg7.IsWhole) (arg8 : Memref sig .tc .vmem S1024x8192 .bf16) (harg8 : arg8.IsWhole) (hc0 : ¬cond0_0 i)
    (x0 : Vec F S1x1024x8192 .i8) (x1 : Vec F S1x1x8192 .f32) (x2 : Vec F S8192x512 .bf16) (x3 : Vec F S1x128x384 .bf16) (xs0 : Vec F S1024x8192 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (qBlock (k0_pay4 xs0 x2) x3) ∗ owns (c : Thread nD τ) arg7 fullShare (sBlock (k0_pay4 xs0 x2) x3) ∗ owns (c : Thread nD τ) arg8 fullShare xs0) -∗ K ⟨⟩))
      ⊢ wp frame (wpE (defs₀ (F := F)) Variants.none c none) E (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg8.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  have e2 : arg4.view.readAt (Elt F) (Rect.unit (s := S8192x512) ![0, 0] S8192x512.size inb_S8192x512_S8192x512_0_0).toLoadRect (harg4.unread x2) = x2 :=
    readAt_unread arg4 harg4 x2 inb_S8192x512_S8192x512_0_0
  have e3 : arg5.view.readAt (Elt F) (Rect.unit (s := S1x128x384) ![0, 0, 0] S1x128x384.size inb_S1x128x384_S1x128x384_0_0_0).toLoadRect (harg5.unread x3) = x3 :=
    readAt_unread arg5 harg5 x3 inb_S1x128x384_S1x128x384_0_0_0
  have e8 : arg8.view.readAt (Elt F) (Rect.unit (s := S1024x8192) ![0, 0] S1024x8192.size inb_S1024x8192_S1024x8192_0_0).toLoadRect (harg8.unread xs0) = xs0 :=
    readAt_unread arg8 harg8 xs0 inb_S1024x8192_S1024x8192_0_0
  have eQ : ∀ h : Fin 8, headQ (k0_pay4 (arg8.view.readAt (Elt F) (Rect.unit (s := S1024x8192) ![0, 0] S1024x8192.size inb_S1024x8192_S1024x8192_0_0).toLoadRect (harg8.unread xs0)) (arg4.view.readAt (Elt F) (Rect.unit (s := S8192x512) ![0, 0] S8192x512.size inb_S8192x512_S8192x512_0_0).toLoadRect (harg4.unread x2))) (arg5.view.readAt (Elt F) (Rect.unit (s := S1x128x384) ![0, 0, 0] S1x128x384.size inb_S1x128x384_S1x128x384_0_0_0).toLoadRect (harg5.unread x3)) h = headQ (k0_pay4 xs0 x2) x3 h := fun h => by rw [e8, e2, e3]
  have eS : ∀ h : Fin 8, headS (k0_pay4 (arg8.view.readAt (Elt F) (Rect.unit (s := S1024x8192) ![0, 0] S1024x8192.size inb_S1024x8192_S1024x8192_0_0).toLoadRect (harg8.unread xs0)) (arg4.view.readAt (Elt F) (Rect.unit (s := S8192x512) ![0, 0] S8192x512.size inb_S8192x512_S8192x512_0_0).toLoadRect (harg4.unread x2))) (arg5.view.readAt (Elt F) (Rect.unit (s := S1x128x384) ![0, 0, 0] S1x128x384.size inb_S1x128x384_S1x128x384_0_0_0).toLoadRect (harg5.unread x3)) h = headS (k0_pay4 xs0 x2) x3 h := fun h => by rw [e8, e2, e3]
  isplitl [H4]
  · iexists _; isplitr; swap
    · iexact H4
    · ipureintro
      exact read_bands arg6.view f4 _ _ _ _ _ _ _ _ _ _
        ((band0 _ _ _).trans (eQ 0)) ((band1 _ _).trans (eQ 1)) ((band2 _ _).trans (eQ 2)) ((band3 _ _).trans (eQ 3))
        ((band4 _ _).trans (eQ 4)) ((band5 _ _).trans (eQ 5)) ((band6 _ _).trans (eQ 6)) ((band7 _ _).trans (eQ 7))
  isplitl [H5]
  · iexists _; isplitr; swap
    · iexact H5
    · ipureintro
      funext y
      refine (?_ : RowsLeft arg7.view (k0_pay4 xs0 x2) x3 8 _) f5 y (y 1).isLt
      refine rowsLeft_odd _ _ _ 6 7 rfl _ _ _ ((srow7 _ _).trans (eS 7)) _ _ rfl ?_
      refine rowsLeft_even _ _ _ 6 6 rfl _ _ _ ((srow6 _ _).trans (eS 6)) _ _ ?_
      refine rowsLeft_odd _ _ _ 4 5 rfl _ _ _ ((srow5 _ _).trans (eS 5)) _ _ rfl ?_
      refine rowsLeft_even _ _ _ 4 4 rfl _ _ _ ((srow4 _ _).trans (eS 4)) _ _ ?_
      refine rowsLeft_odd _ _ _ 2 3 rfl _ _ _ ((srow3 _ _).trans (eS 3)) _ _ rfl ?_
      refine rowsLeft_even _ _ _ 2 2 rfl _ _ _ ((srow2 _ _).trans (eS 2)) _ _ ?_
      refine rowsLeft_odd _ _ _ 0 1 rfl _ _ _ ((srow1 _ _).trans (eS 1)) _ _ rfl ?_
      refine rowsLeft_even _ _ _ 0 0 rfl _ _ _ ((srow0 _ _ _).trans (eS 0)) _ _ ?_
      exact rowsLeft_nil _ _ _
  iexists _; isplitr; · ipureintro; exact hfs0
  iexact HS0

end Cert.KernelIdeal.Hand

end
-- ==== Proof.KernelIdeal.Frame.lean ====
/- The frame of the program: what the body leaves at each grid point in closed form, the proof data of the pipeline, the body
   obligation at every point, and the run. -/
module

public import proofs.«01_k».proof.Proof.KernelIdeal.RunA
public import proofs.«01_k».proof.Proof.KernelIdeal.RunB
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The first point of the batch that point `n` belongs to. -/
def first (n : ℕ) (hn : n < cfg0.N) : Fin cfg0.N := ⟨n - n % 16, Nat.lt_of_le_of_lt (Nat.sub_le _ _) hn⟩

/-- The weight block carried after point `n`: the one its batch's first point computed. -/
def carried (c : Dev nD) (n : ℕ) (hn : n < cfg0.N) : Vec F S1024x8192 .bf16 :=
  k0_pay3 (iblk m c 1 (first n hn)) (iblk m c 0 (first n hn))

/-- At a batch's first point the carried block is computed from that point's own blocks. -/
theorem carried_first (c : Dev nD) (t : Fin cfg0.N) (h : t.val % 16 = 0) :
    carried m c t.val t.isLt = k0_pay3 (iblk m c 1 t) (iblk m c 0 t) := by
  have e : first t.val t.isLt = t := Fin.ext (show t.val - t.val % 16 = t.val by omega)
  unfold carried; rw [e]

/-- At any other point the carried block is the one of the point before. -/
theorem carried_step (c : Dev nD) (n : ℕ) (hn : n < cfg0.N) (h : ¬n % 16 = 0) (hn' : n - 1 < cfg0.N) :
    carried m c n hn = carried m c (n - 1) hn' := by
  have e : first n hn = first (n - 1) hn' := Fin.ext (show n - n % 16 = n - 1 - (n - 1) % 16 by omega)
  unfold carried; rw [e]

/-- The packed codes point `t` leaves. -/
def qAt (c : Dev nD) (t : Fin cfg0.N) : Vec F S1x512x512 .i8 := qBlock (k0_pay4 (carried m c t.val t.isLt) (iblk m c 2 t)) (iblk m c 3 t)

/-- The scales point `t` leaves. -/
def sAt (c : Dev nD) (t : Fin cfg0.N) : Vec F S1x8x512 .bf16 := sBlock (k0_pay4 (carried m c t.val t.isLt) (iblk m c 2 t)) (iblk m c 3 t)

/-- The invariant before position `n`: before the first point the scratch holds anything; afterwards the carried weight block. -/
def PhiS (c : Dev nD) : (n : ℕ) → n ≤ cfg0.N → sProp 𝕄
  | 0, _ => Pipeline.ΦA spec0 c
  | n + 1, hn => iprop(iprop(owns (c : Thread nD τ) scM0_0 fullShare (carried m c n hn)) ∗ (∃ r, prngReg c r))

/-- Before the first point the scratch holds anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (carried m c n hn)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (carried m c (n - 1) (by omega))) ∗ (∃ r, prngReg c r)) := by
  cases n with
  | zero => exact absurd rfl hz
  | succ n => rfl

/-! ## The pipeline's proof data -/

/-- The proof data of the pipeline: the arrays as the region finds them; after each point every input's buffer at its block and
    the outputs at the codes and the scales; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qAt m c t
    | ⟨5, _⟩ => sAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
/-- Window 1 after a point. -/
theorem after0_1 (c : Dev nD) (t : Fin cfg0.N) : (dats m 0 c).after 1 t = iblk m c 1 t := by dsimp only [dats]
/-- Window 2 after a point. -/
theorem after0_2 (c : Dev nD) (t : Fin cfg0.N) : (dats m 0 c).after 2 t = iblk m c 2 t := by dsimp only [dats]
/-- Window 3 after a point. -/
theorem after0_3 (c : Dev nD) (t : Fin cfg0.N) : (dats m 0 c).after 3 t = iblk m c 3 t := by dsimp only [dats]
/-- Window 4 after a point. -/
theorem after0_4 (c : Dev nD) (t : Fin cfg0.N) : (dats m 0 c).after 4 t = qAt m c t := by dsimp only [dats]
/-- Window 5 after a point. -/
theorem after0_5 (c : Dev nD) (t : Fin cfg0.N) : (dats m 0 c).after 5 t = sAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
/-- Input window 1 before a point holds its block. -/
theorem before0_1 (c : Dev nD) (t : Fin cfg0.N) (d) : (dats m 0 c).before 1 t d = iblk m c 1 t :=
  before0_1_of m (dats m 0 c) (A_eq m c 1) (after0_1 m c) t d
/-- Input window 2 before a point holds its block. -/
theorem before0_2 (c : Dev nD) (t : Fin cfg0.N) (d) : (dats m 0 c).before 2 t d = iblk m c 2 t :=
  before0_2_of m (dats m 0 c) (A_eq m c 2) (after0_2 m c) t d
/-- Input window 3 before a point holds its block. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant and the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point takes the invariant and the windows' buffers from before the point to after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  unfold qAt sAt
  by_cases h0 : t.val % 16 = 0
  · rw [carried_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases hz : t.val = 0
    · exact absurd (by rw [hz]) h0
    · rw [PhiS_castSucc m c t, PhiS_pos m c _ _ hz, carried_step m c t.val t.isLt h0 (Nat.lt_of_le_of_lt (Nat.sub_le _ _) t.isLt)]
      iintro ⟨⟨HS0, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ (fun h => h0 ((hcond0_0 t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 640 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run ends, leaves the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KernelIdeal.Arrays.lean ====
/- The two output arrays after the run, as the blocks the grid points leave: the codes' array and the scales' array at every
   index, and the run re-posted with those values. -/
module

public import proofs.«01_k».proof.Proof.KernelIdeal.Frame
public import Idealize.ShloMosaic.Lib.Pipeline.Value

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The number of grid points. -/
theorem points_eq : cfg0.N = 640 := N_0

/-! ## The array of packed codes -/

/-- The grid point that writes index `i`'s block: batch times sixteen plus the column tile. -/
def pt4 (i : S40x512x8192.Idx) : Fin cfg0.N :=
  ⟨16 * (i 0).val + (i 2).val / 512, by
    have h0 : (i 0).val < 40 := (i 0).isLt
    have h2 : (i 2).val < 8192 := (i 2).isLt
    rw [points_eq]; omega⟩

/-- The place of index `i` in its block. -/
def loc4 (i : S40x512x8192.Idx) : S1x512x512.Idx := ix3 (n0 := 1) (n1 := 512) (n2 := 512) 0 (i 1) ⟨(i 2).val % 512, Nat.mod_lt _ (by decide)⟩

/-- What the array ends holding. -/
def G4 (c : Dev nD) : Buf (Elt F) ((c : Thread nD τ).loc main_v6_0) := fun i => qAt m c (pt4 i) (loc4 i)

/-- Block `t` of this window is batch `t / 16`'s column tile `t % 16`. -/
theorem index4 : ∀ t : Fin cfg0.N, win0_4.index t (0 : Fin 3) = t.val / 16 ∧ win0_4.index t (1 : Fin 3) = 0
    ∧ win0_4.index t (2 : Fin 3) = t.val % 16 :=
  (by decide +kernel : ∀ t : Fin grid0.N, _)

/-- Every point writes its block back. -/
theorem flush4 : ∀ t : Fin cfg0.N, (cfg0.win 4).flush t = true :=
  (by decide +kernel : ∀ t : Fin grid0.N, win0_4.flush t = true)

/-- What point `t` writes back is block `t` of the array's final contents. -/
theorem flushed4_eq (c : Dev nD) (t : Fin cfg0.N) :
    (dats m 0 c).flushed 4 t = ((cfg0.win 4).blk t).view.read (Elt F) (G4 m c) := by
  show (cfg0.win 4).cut (grid0.coords t) ((dats m 0 c).after 4 t) = _
  rw [after0_4]
  obtain ⟨e0, e1, e2⟩ := index4 t
  funext y
  have hy0 : (y 0).val < 1 := (y 0).isLt
  have hy1 : (y 1).val < 512 := (y 1).isLt
  have hy2 : (y 2).val < 512 := (y 2).isLt
  have hb0 : (((cfg0.win 4).blk t).view.emb y 0).val = win0_4.index t (0 : Fin 3) * 1 + 1 * (y 0).val := rfl
  have hb1 : (((cfg0.win 4).blk t).view.emb y 1).val = win0_4.index t (1 : Fin 3) * 512 + 1 * (y 1).val := rfl
  have hb2 : (((cfg0.win 4).blk t).view.emb y 2).val = win0_4.index t (2 : Fin 3) * 512 + 1 * (y 2).val := rfl
  have ht : t.val < 640 := lt_of_lt_of_eq t.isLt points_eq
  have hp : pt4 (((cfg0.win 4).blk t).view.emb y) = t := by
    apply Fin.ext
    show 16 * (((cfg0.win 4).blk t).view.emb y 0).val + (((cfg0.win 4).blk t).view.emb y 2).val / 512 = _
    rw [hb0, hb2, e0, e2]; omega
  have hl : loc4 (((cfg0.win 4).blk t).view.emb y) = (cfg0.win 4).xinj (grid0.coords t) y := by
    funext a; apply Fin.ext
    match a with
    | ⟨0, _⟩ => show 0 = (y 0).val; omega
    | ⟨1, _⟩ => show (((cfg0.win 4).blk t).view.emb y 1).val = (y 1).val; rw [hb1, e1]; omega
    | ⟨2, _⟩ => show (((cfg0.win 4).blk t).view.emb y 2).val % 512 = (y 2).val; rw [hb2, e2]; omega
  show qAt m c t ((cfg0.win 4).xinj (grid0.coords t) y) = G4 m c (((cfg0.win 4).blk t).view.emb y)
  unfold G4
  rw [hp, hl]

/-- An index of the array is in point `t`'s block iff each coordinate is in the block's range on its axis. -/
theorem mem_blk4 (t : Fin cfg0.N) (i : S40x512x8192.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v6_0).slice (win0_4.rect t)).set ↔ _
  rw [View.set_slice_whole, Rect.mem_set_unit]
  exact Iff.rfl

/-- Every index is in the block of the point named for it. -/
theorem covered4 (i : S40x512x8192.Idx) : ∃ t : Fin cfg0.N, (cfg0.win 4).flush t = true ∧ i ∈ ((cfg0.win 4).blk t).view.set := by
  refine ⟨pt4 i, flush4 _, ?_⟩
  rw [mem_blk4]
  obtain ⟨e0, e1, e2⟩ := index4 (pt4 i)
  have h0 : (i 0).val < 40 := (i 0).isLt
  have h1 : (i 1).val < 512 := (i 1).isLt
  have h2 : (i 2).val < 8192 := (i 2).isLt
  have hv : (pt4 i).val = 16 * (i 0).val + (i 2).val / 512 := rfl
  rw [hv] at e0 e2
  intro a
  match a with
  | ⟨0, _⟩ => show win0_4.index (pt4 i) (0 : Fin 3) * 1 ≤ (i 0).val ∧ (i 0).val < win0_4.index (pt4 i) (0 : Fin 3) * 1 + 1; omega
  | ⟨1, _⟩ => show win0_4.index (pt4 i) (1 : Fin 3) * 512 ≤ (i 1).val ∧ (i 1).val < win0_4.index (pt4 i) (1 : Fin 3) * 512 + 512; omega
  | ⟨2, _⟩ => show win0_4.index (pt4 i) (2 : Fin 3) * 512 ≤ (i 2).val ∧ (i 2).val < win0_4.index (pt4 i) (2 : Fin 3) * 512 + 512; omega

/-- The array after the run. -/
theorem final4 (c : Dev nD) : (dats m 0 c).arrAt 4 cfg0.N = G4 m c :=
  (dats m 0 c).arrAt_eq_of_cover 4 _ (fun t _ => flushed4_eq m c t) covered4

/-! ## The array of scales -/

/-- The grid point that writes index `i`'s block: batch times sixteen plus the column tile. -/
def pt5 (i : S40x8x8192.Idx) : Fin cfg0.N :=
  ⟨16 * (i 0).val + (i 2).val / 512, by
    have h0 : (i 0).val < 40 := (i 0).isLt
    have h2 : (i 2).val < 8192 := (i 2).isLt
    rw [points_eq]; omega⟩

/-- The place of index `i` in its block. -/
def loc5 (i : S40x8x8192.Idx) : S1x8x512.Idx := ix3 (n0 := 1) (n1 := 8) (n2 := 512) 0 (i 1) ⟨(i 2).val % 512, Nat.mod_lt _ (by decide)⟩

/-- What the array ends holding. -/
def G5 (c : Dev nD) : Buf (Elt F) ((c : Thread nD τ).loc main_v6_1) := fun i => sAt m c (pt5 i) (loc5 i)

/-- Block `t` of this window is batch `t / 16`'s column tile `t % 16`. -/
theorem index5 : ∀ t : Fin cfg0.N, win0_5.index t (0 : Fin 3) = t.val / 16 ∧ win0_5.index t (1 : Fin 3) = 0
    ∧ win0_5.index t (2 : Fin 3) = t.val % 16 :=
  (by decide +kernel : ∀ t : Fin grid0.N, _)

/-- Every point writes its block back. -/
theorem flush5 : ∀ t : Fin cfg0.N, (cfg0.win 5).flush t = true :=
  (by decide +kernel : ∀ t : Fin grid0.N, win0_5.flush t = true)

/-- What point `t` writes back is block `t` of the array's final contents. -/
theorem flushed5_eq (c : Dev nD) (t : Fin cfg0.N) :
    (dats m 0 c).flushed 5 t = ((cfg0.win 5).blk t).view.read (Elt F) (G5 m c) := by
  show (cfg0.win 5).cut (grid0.coords t) ((dats m 0 c).after 5 t) = _
  rw [after0_5]
  obtain ⟨e0, e1, e2⟩ := index5 t
  funext y
  have hy0 : (y 0).val < 1 := (y 0).isLt
  have hy1 : (y 1).val < 8 := (y 1).isLt
  have hy2 : (y 2).val < 512 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 8 + 1 * (y 1).val := rfl
  have hb2 : (((cfg0.win 5).blk t).view.emb y 2).val = win0_5.index t (2 : Fin 3) * 512 + 1 * (y 2).val := rfl
  have ht : t.val < 640 := lt_of_lt_of_eq t.isLt points_eq
  have hp : pt5 (((cfg0.win 5).blk t).view.emb y) = t := by
    apply Fin.ext
    show 16 * (((cfg0.win 5).blk t).view.emb y 0).val + (((cfg0.win 5).blk t).view.emb y 2).val / 512 = _
    rw [hb0, hb2, e0, e2]; omega
  have hl : loc5 (((cfg0.win 5).blk t).view.emb y) = (cfg0.win 5).xinj (grid0.coords t) y := by
    funext a; apply Fin.ext
    match a with
    | ⟨0, _⟩ => show 0 = (y 0).val; omega
    | ⟨1, _⟩ => show (((cfg0.win 5).blk t).view.emb y 1).val = (y 1).val; rw [hb1, e1]; omega
    | ⟨2, _⟩ => show (((cfg0.win 5).blk t).view.emb y 2).val % 512 = (y 2).val; rw [hb2, e2]; omega
  show sAt m c t ((cfg0.win 5).xinj (grid0.coords t) y) = G5 m c (((cfg0.win 5).blk t).view.emb y)
  unfold G5
  rw [hp, hl]

/-- An index of the array is in point `t`'s block iff each coordinate is in the block's range on its axis. -/
theorem mem_blk5 (t : Fin cfg0.N) (i : S40x8x8192.Idx) :
    i ∈ ((cfg0.win 5).blk t).view.set ↔ ∀ a : Fin 3, win0_5.index t a * S1x8x512.size a ≤ (i a).val ∧ (i a).val < win0_5.index t a * S1x8x512.size a + S1x8x512.size a := by
  show i ∈ ((View.whole main_v6_1).slice (win0_5.rect t)).set ↔ _
  rw [View.set_slice_whole, Rect.mem_set_unit]
  exact Iff.rfl

/-- Every index is in the block of the point named for it. -/
theorem covered5 (i : S40x8x8192.Idx) : ∃ t : Fin cfg0.N, (cfg0.win 5).flush t = true ∧ i ∈ ((cfg0.win 5).blk t).view.set := by
  refine ⟨pt5 i, flush5 _, ?_⟩
  rw [mem_blk5]
  obtain ⟨e0, e1, e2⟩ := index5 (pt5 i)
  have h0 : (i 0).val < 40 := (i 0).isLt
  have h1 : (i 1).val < 8 := (i 1).isLt
  have h2 : (i 2).val < 8192 := (i 2).isLt
  have hv : (pt5 i).val = 16 * (i 0).val + (i 2).val / 512 := rfl
  rw [hv] at e0 e2
  intro a
  match a with
  | ⟨0, _⟩ => show win0_5.index (pt5 i) (0 : Fin 3) * 1 ≤ (i 0).val ∧ (i 0).val < win0_5.index (pt5 i) (0 : Fin 3) * 1 + 1; omega
  | ⟨1, _⟩ => show win0_5.index (pt5 i) (1 : Fin 3) * 8 ≤ (i 1).val ∧ (i 1).val < win0_5.index (pt5 i) (1 : Fin 3) * 8 + 8; omega
  | ⟨2, _⟩ => show win0_5.index (pt5 i) (2 : Fin 3) * 512 ≤ (i 2).val ∧ (i 2).val < win0_5.index (pt5 i) (2 : Fin 3) * 512 + 512; omega

/-- The array after the run. -/
theorem final5 (c : Dev nD) : (dats m 0 c).arrAt 5 cfg0.N = G5 m c :=
  (dats m 0 c).arrAt_eq_of_cover 5 _ (fun t _ => flushed5_eq m c t) covered5

/-! ## The arguments, and the run -/

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run re-posted: each output array at its closed form, the arguments unchanged. -/
theorem run : θ_run defs (onTc (τ := τ) (main (F := F))) ⟨m, fun _ => 0, ρ⟩ fun r => ∀ c : Dev nD,
      r.2.mem ((c : Thread nD τ).loc main_v6_0) = G4 m c
      ∧ r.2.mem ((c : Thread nD τ).loc main_v6_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c),
      ((h c).1 5).trans (final5 m c),
      kept_main_arg0 m r h c,
      kept_main_arg1 m r h c,
      kept_main_arg2 m r h c,
      kept_main_arg3 m r h c⟩)
    (run_main m ρ)

end Cert.KernelIdeal.Hand

end
-- ==== Proof.Values.Scalars.lean ====
/- The last steps of both programs on one column, over the extended reals: largest magnitude, scale, code and packed byte. -/
module

public import Idealize.ShloMosaic.Lib.Pointwise

@[expose] public section

noncomputable section

namespace Cert.Values

open Idealize.ShloMosaic

/-- The magnitude of an extended real. -/
def mag (x : EReal) : EReal := max x (-x)

/-- The largest magnitude in a column of 128 entries. -/
def colMax (f : Fin 128 → EReal) : EReal := Finset.univ.fold max (Ideal.ofBits .f32 0xFF800000#32) fun e => mag (f e)

/-- The scale of a column whose largest magnitude is `a`. -/
def scaleOne (a : EReal) : EReal := if a = 0 then Ideal.ofBits .f32 0x3F800000#32 else Ideal.div a (Ideal.ofBits .f32 0x40E00000#32)

/-- The code of the entry `x` at the scale `s`. -/
def codeOne (x s : EReal) : BitVec 32 :=
  FloatOps.fptosi (F := Ideal) (φ := .f32) 32 (min (Ideal.ofBits .f32 0x40E00000#32) (max (Ideal.ofBits .f32 0xC0E00000#32)
    (Ideal.liftRound Ideal.roundHalfEven (Ideal.div x s))))

/-- The byte of two codes. -/
def byteOne (lo hi : BitVec 32) : BitVec 8 :=
  BitVec.setWidth 8 (IntOp.ori (IntOp.andi lo 15#32) (IntOp.shli .host (IntOp.andi hi 15#32) 4#32))

end Cert.Values

end
-- ==== Proof.KernelIdeal.AtIndex.lean ====
/- The kernel body's arithmetic read at an index, over the extended reals. -/
module

public import proofs.«01_k».proof.Proof.KernelIdeal.Heads
public import proofs.«01_k».proof.Proof.Gen.KernelIdeal.Skeleton
public import proofs.«01_k».proof.Proof.Values.Scalars
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem Cert.Values

/-- The dequantised weight block: code times its column's scale. -/
theorem pay3_at (x1 : Vec Ideal S1x1x8192 .f32) (x0 : Vec Ideal S1x1024x8192 .i8) (r : Fin 1024) (j : Fin 8192) :
    k0_pay3 x1 x0 (ix2 r j) = (((x0 (ix3 0 r j) : BitVec 8).toInt : ℝ) : EReal) * x1 (ix3 0 0 j) := by
  pointwise [k0_pay3]
  rfl

/-- The product of the weight block with a column tile of the first rotation. -/
theorem pay4_at (w : Vec Ideal S1024x8192 .bf16) (x2 : Vec Ideal S8192x512 .bf16) (r : Fin 1024) (n : Fin 512) :
    k0_pay4 w x2 (ix2 r n) = ∑ j : Fin 8192, w (ix2 r j) * x2 (ix2 j n) := by
  pointwise [k0_pay4]

/-- Head `h`'s rows start at row `128 h`. -/
theorem rowsOf_at (acc : FVec Ideal S1024x512 .f32) (h : Fin 8) (d : Fin 128) (n : Fin 512) :
    rowsOf acc h (ix2 d n) = acc (ix2 ⟨128 * h.val + d.val, by omega⟩ n) := by
  pointwise [rowsOf]

/-- The rotated entry: the three 128-column blocks of the stacked rotation against the entry, the entry less itself, and that
    less itself. -/
theorem rotOf_at (x : FVec Ideal S128x512 .f32) (r : Vec Ideal S1x128x384 .bf16) (k : Fin 128) (n : Fin 512) :
    rotOf x r (ix2 k n) = ∑ l : Fin 384, r (ix3 0 k l) *
      (if h : l.val < 128 then x (ix2 ⟨l.val, h⟩ n)
       else if h : l.val - 128 < 128 then x (ix2 ⟨l.val - 128, h⟩ n) - x (ix2 ⟨l.val - 128, h⟩ n)
       else x (ix2 ⟨l.val - 128 - 128, by omega⟩ n) - x (ix2 ⟨l.val - 128 - 128, by omega⟩ n) -
              (x (ix2 ⟨l.val - 128 - 128, by omega⟩ n) - x (ix2 ⟨l.val - 128 - 128, by omega⟩ n))) := by
  pointwise [rotOf, pieces, leftOver]

/-- The largest magnitude of a column. -/
theorem amaxOf_at (x : FVec Ideal S128x512 .f32) (n : Fin 512) :
    amaxOf x (ix2 0 n) = colMax fun e => x (ix2 e n) := by
  pointwise [amaxOf]
  rfl

/-- The scale of a column. -/
theorem scaleOf_at (am : FVec Ideal S1x512 .f32) (n : Fin 512) :
    scaleOf am (ix2 0 n) = scaleOne (am (ix2 0 n)) := by
  pointwise [scaleOf, scaleOne]

/-- The code of an entry. -/
theorem codesOf_at (x : FVec Ideal S128x512 .f32) (s : FVec Ideal S1x512 .bf16) (e : Fin 128) (n : Fin 512) :
    codesOf x s (ix2 e n) = codeOne (x (ix2 e n)) (s (ix2 0 n)) := by
  pointwise [codesOf]
  rfl

/-- Row `k`'s byte holds the codes of rows `k` and `64 + k`. -/
theorem packOf_at (q : IVec S128x512 32) (k : Fin 64) (n : Fin 512) :
    packOf q (ix3 0 k n) = byteOne (q (ix2 ⟨k.val, by omega⟩ n)) (q (ix2 ⟨64 + k.val, by omega⟩ n)) := by
  pointwise [packOf]
  rfl

/-- A head's scale. -/
theorem headS_at (acc : FVec Ideal S1024x512 .f32) (r : Vec Ideal S1x128x384 .bf16) (h : Fin 8) (n : Fin 512) :
    headS acc r h (ix3 0 0 n) = scaleOne (colMax fun e => rotOf (rowsOf acc h) r (ix2 e n)) := by
  have e : headS acc r h (ix3 0 0 n) = scaleOf (amaxOf (rotOf (rowsOf acc h) r)) (ix2 0 n) := by pointwise [headS]
  rw [e, scaleOf_at, amaxOf_at]

/-- A head's packed byte. -/
theorem headQ_at (acc : FVec Ideal S1024x512 .f32) (r : Vec Ideal S1x128x384 .bf16) (h : Fin 8) (k : Fin 64) (n : Fin 512) :
    headQ acc r h (ix3 0 k n) =
      byteOne (codeOne (rotOf (rowsOf acc h) r (ix2 ⟨k.val, by omega⟩ n)) (scaleOne (colMax fun e => rotOf (rowsOf acc h) r (ix2 e n))))
        (codeOne (rotOf (rowsOf acc h) r (ix2 ⟨64 + k.val, by omega⟩ n)) (scaleOne (colMax fun e => rotOf (rowsOf acc h) r (ix2 e n)))) := by
  unfold headQ
  rw [packOf_at, codesOf_at, codesOf_at, scaleOf_at, amaxOf_at]

end Cert.KernelIdeal.Hand

end
-- ==== Proof.KernelIdeal.Blocks.lean ====
/- The input blocks of a grid point read at an index, as entries of the four arguments: point `t` is column tile `t % 16` of
   batch `t / 16`; the stacked rotation the host prepares is the batch's rotation transposed, its even rows before its odd
   rows, three times side by side. -/
module

public import proofs.«01_k».proof.Proof.KernelIdeal.Frame
public import Idealize.ShloMosaic.Lib.Pointwise
public import Idealize.ShloMosaic.Lib.StableHlo.ReadAt

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- A batch's second rotation transposed, its even rows before its odd rows. -/
def halves (a3 : FVec Ideal S40x128x128 .bf16) : FVec Ideal S40x128x128 .bf16 :=
  concatenate S40x128x128 1
    [⟨S40x64x128, Host.slice S40x64x128 ![0, 0, 0] ![1, 2, 1] (transpose S40x128x128 [0, 2, 1] a3 transposes_S40x128x128_S40x128x128_0_2_1)
        slicesBy_S40x128x128_S40x64x128_0s1_0s2_0s1⟩,
      ⟨S40x64x128, Host.slice S40x64x128 ![0, 1, 0] ![1, 2, 1] (transpose S40x128x128 [0, 2, 1] a3 transposes_S40x128x128_S40x128x128_0_2_1)
        slicesBy_S40x128x128_S40x64x128_0s1_1s2_0s1⟩] concatenates_S40x64x128_S40x64x128_S40x128x128_d1

/-- That, three times side by side. -/
def stacked (a3 : FVec Ideal S40x128x128 .bf16) : FVec Ideal S40x128x384 .bf16 :=
  concatenate S40x128x384 2 [⟨S40x128x128, halves a3⟩, ⟨S40x128x128, halves a3⟩, ⟨S40x128x128, halves a3⟩]
    concatenates_S40x128x128_S40x128x128_S40x128x128_S40x128x384_d2

/-- The row of the second rotation's transpose that the stacked rotation's row `k` is: the even rows first. -/
def rowAt (k : Fin 128) : Fin 128 := if h : k.val < 64 then ⟨2 * k.val, by omega⟩ else ⟨2 * (k.val - 64) + 1, by omega⟩

/-- The reordered rotation at an index. -/
theorem halves_at (a3 : FVec Ideal S40x128x128 .bf16) (b : Fin 40) (k d : Fin 128) :
    halves a3 (ix3 b k d) = a3 (ix3 b d (rowAt k)) := by
  pointwise [halves]
  unfold rowAt
  split
  · rfl
  · refine congrArg a3 (congrArg (ix3 b d) (Fin.ext ?_))
    show 1 + 2 * (k.val - 64) = 2 * (k.val - 64) + 1
    omega

/-- The stacked rotation at an index. -/
theorem stacked_at (a3 : FVec Ideal S40x128x128 .bf16) (b : Fin 40) (k : Fin 128) (l : Fin 384) :
    stacked a3 (ix3 b k l) = a3 (ix3 b ⟨l.val % 128, Nat.mod_lt _ (by decide)⟩ (rowAt k)) := by
  rw [← halves_at a3 b k]
  pointwise [stacked]
  split
  · refine congrArg (halves a3) (congrArg (ix3 b k) (Fin.ext ?_)); show l.val = l.val % 128; omega
  · split
    · refine congrArg (halves a3) (congrArg (ix3 b k) (Fin.ext ?_)); show l.val - 128 = l.val % 128; omega
    · refine congrArg (halves a3) (congrArg (ix3 b k) (Fin.ext ?_)); show l.val - 128 - 128 = l.val % 128; omega

/-- The staged scales are the second argument. -/
theorem V_main_v5_at (c : Dev nD) (b : Fin 40) (j : Fin 8192) :
    (V m c main_v5 : FVec Ideal S40x1x8192 .f32) (ix3 b 0 j) = (m ((c : Thread nD τ).loc main_arg1) : FVec Ideal S40x8192 .f32) (ix2 b j) := by
  unfold V
  after_reads_at

/-- The staged rotation is the stack of the fourth argument. -/
theorem V_main_v4 (c : Dev nD) : V m c main_v4 = stacked (m ((c : Thread nD τ).loc main_arg3)) := by
  unfold V
  simp only [hostOps0]
  after_results_simp
  rfl

/-- Windows 0, 1 and 3 take the batch's block, window 2 the column tile's. -/
theorem index_in : ∀ t : Fin cfg0.N,
    (win0_0.index t (0 : Fin 3) = t.val / 16 ∧ win0_0.index t (1 : Fin 3) = 0 ∧ win0_0.index t (2 : Fin 3) = 0)
    ∧ (win0_1.index t (0 : Fin 3) = t.val / 16 ∧ win0_1.index t (1 : Fin 3) = 0 ∧ win0_1.index t (2 : Fin 3) = 0)
    ∧ (win0_2.index t (0 : Fin 2) = 0 ∧ win0_2.index t (1 : Fin 2) = t.val % 16)
    ∧ (win0_3.index t (0 : Fin 3) = t.val / 16 ∧ win0_3.index t (1 : Fin 3) = 0 ∧ win0_3.index t (2 : Fin 3) = 0) :=
  (by decide +kernel : ∀ t : Fin grid0.N, _)

/-- The codes' block of a point of batch `b`. -/
theorem iblk0_at (c : Dev nD) (t : Fin cfg0.N) (b : Fin 40) (hb : t.val / 16 = b.val) (r : Fin 1024) (j : Fin 8192) :
    (iblk m c 0 t : IVec S1x1024x8192 8) (ix3 0 r j) = (m ((c : Thread nD τ).loc main_arg0) : IVec S40x1024x8192 8) (ix3 b r j) := by
  obtain ⟨⟨e0, e1, e2⟩, -⟩ := index_in t
  rw [← V_main_arg0 m c]
  show V m c main_arg0 (((cfg0.win 0).blk t).view.emb (ix3 (n0 := 1) (n1 := 1024) (n2 := 8192) 0 r j)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 1024 + 1 * r.val = r.val; omega
  | ⟨2, _⟩ => show win0_0.index t (2 : Fin 3) * 8192 + 1 * j.val = j.val; omega

/-- The scales' block of a point of batch `b`. -/
theorem iblk1_at (c : Dev nD) (t : Fin cfg0.N) (b : Fin 40) (hb : t.val / 16 = b.val) (j : Fin 8192) :
    (iblk m c 1 t : FVec Ideal S1x1x8192 .f32) (ix3 0 0 j) = (m ((c : Thread nD τ).loc main_arg1) : FVec Ideal S40x8192 .f32) (ix2 b j) := by
  obtain ⟨-, ⟨e0, e1, e2⟩, -⟩ := index_in t
  rw [← V_main_v5_at m c]
  show V m c main_v5 (((cfg0.win 1).blk t).view.emb (ix3 (n0 := 1) (n1 := 1) (n2 := 8192) 0 0 j)) = _
  refine congrArg (V m c main_v5) (funext fun a => Fin.ext ?_)
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 8192 + 1 * j.val = j.val; omega

/-- The first rotation's block of a point of column tile `o`. -/
theorem iblk2_at (c : Dev nD) (t : Fin cfg0.N) (j : Fin 8192) (n : Fin 512) (n' : Fin 8192) (hn : n'.val = t.val % 16 * 512 + n.val) :
    (iblk m c 2 t : FVec Ideal S8192x512 .bf16) (ix2 j n) = (m ((c : Thread nD τ).loc main_arg2) : FVec Ideal S8192x8192 .bf16) (ix2 j n') := by
  obtain ⟨-, -, ⟨e0, e1⟩, -⟩ := index_in t
  rw [← V_main_arg2 m c]
  show V m c main_arg2 (((cfg0.win 2).blk t).view.emb (ix2 (n0 := 8192) (n1 := 512) j n)) = _
  refine congrArg (V m c main_arg2) (funext fun a => Fin.ext ?_)
  match a with
  | ⟨0, _⟩ => show win0_2.index t (0 : Fin 2) * 8192 + 1 * j.val = j.val; omega
  | ⟨1, _⟩ => show win0_2.index t (1 : Fin 2) * 512 + 1 * n.val = n'.val; omega

/-- The stacked rotation's block of a point of batch `b`. -/
theorem iblk3_at (c : Dev nD) (t : Fin cfg0.N) (b : Fin 40) (hb : t.val / 16 = b.val) (k : Fin 128) (l : Fin 384) :
    (iblk m c 3 t : FVec Ideal S1x128x384 .bf16) (ix3 0 k l)
      = (m ((c : Thread nD τ).loc main_arg3) : FVec Ideal S40x128x128 .bf16) (ix3 b ⟨l.val % 128, Nat.mod_lt _ (by decide)⟩ (rowAt k)) := by
  obtain ⟨-, -, -, ⟨e0, e1, e2⟩⟩ := index_in t
  rw [← stacked_at (m ((c : Thread nD τ).loc main_arg3)) b k l, ← V_main_v4 m c]
  show V m c main_v4 (((cfg0.win 3).blk t).view.emb (ix3 (n0 := 1) (n1 := 128) (n2 := 384) 0 k l)) = _
  refine congrArg (V m c main_v4) (funext fun a => Fin.ext ?_)
  match a with
  | ⟨0, _⟩ => show win0_3.index t (0 : Fin 3) * 1 + 1 * 0 = b.val; omega
  | ⟨1, _⟩ => show win0_3.index t (1 : Fin 3) * 128 + 1 * k.val = k.val; omega
  | ⟨2, _⟩ => show win0_3.index t (2 : Fin 3) * 384 + 1 * l.val = l.val; omega

end Cert.KernelIdeal.Hand

end
-- ==== Proof.ReferenceIdeal.Stages.lean ====
/- The reference's two results in stages, as functions of its four arguments: the dequantised product, its rotation head by
   head, the largest magnitudes, the scales, the codes, and the packed codes. -/
module

public import proofs.«01_k».proof.Proof.Gen.ReferenceIdeal.Run

@[expose] public section

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The dequantised weights. -/
def weights (a0 : IVec S40x1024x8192 8) (a1 : FVec F S40x8192 .f32) : FVec F S40x1024x8192 .bf16 :=
  mulf (truncf .bf16 (sitofp .f32 (extsi 32 a0 natLt_8_32)) bitsLt_bf16_f32)
    (broadcastInDim S40x1024x8192 ![0, 1, 2] bcast_S40x1x8192_S40x1024x8192_0_1_2
      (broadcastInDim S40x1x8192 ![0, 2] bcast_S40x8192_S40x1x8192_0_2 (truncf .bf16 a1 bitsLt_bf16_f32)))

/-- Their product with the first rotation. -/
def prod (w : FVec F S40x1024x8192 .bf16) (a2 : FVec F S8192x8192 .bf16) : FVec F S40x1024x8192 .f32 :=
  Host.dotGeneral dot_S40x1024x8192_S8192x8192_S40x1024x8192_2_0_01_1_n_n none w a2

/-- Each head's 128 rows of the product, rotated by the batch's second rotation. -/
def rot (p : FVec F S40x1024x8192 .f32) (a3 : FVec F S40x128x128 .bf16) : FVec F S40x8x128x8192 .f32 :=
  shapeCast _ (shapeCast _ (transpose S40x8x128x8192 [0, 1, 3, 2]
    (Host.dotGeneral dot_S40x8x128x8192_S40x128x128_S40x8x8192x128_2_1_13_2_0_0 (some .fp32)
      (shapeCast _ p shapeCasts_S40x1024x8192_S40x8x128x8192) (extf .f32 a3 bitsLt_bf16_f32) : FVec F S40x8x8192x128 .f32)
    transposes_S40x8x8192x128_S40x8x128x8192_0_1_3_2) shapeCasts_S40x8x128x8192_S40x1024x8192) shapeCasts_S40x1024x8192_S40x8x128x8192

/-- The largest magnitude of each column of each head. -/
def amax (x : FVec F S40x8x128x8192 .f32) : FVec F S40x8x8192 .f32 :=
  Host.reduce FloatOps.maximumf (Host.absf x) (constant S_ .f32 0xFF800000#32) reducesTo_S40x8x128x8192_S40x8x8192_d2 h_S_

/-- The bf16 scales. -/
def scale (am : FVec F S40x8x8192 .f32) : FVec F S40x8x8192 .bf16 :=
  truncf .bf16 (select (cmpf .oeq am (broadcastInDim S40x8x8192 ![] bcast_S_S40x8x8192 (constant S_ .f32 0x00000000#32)))
    (broadcastInDim S40x8x8192 ![] bcast_S_S40x8x8192 (id (constant S_ .f32 0x3F800000#32)))
    (Host.divf am (broadcastInDim S40x8x8192 ![] bcast_S_S40x8x8192 (constant S_ .f32 0x40E00000#32)))) bitsLt_bf16_f32

/-- The int4 codes, a word each. -/
def codes (x : FVec F S40x8x128x8192 .f32) (s : FVec F S40x8x8192 .bf16) : IVec S40x8x128x8192 32 :=
  fptosi 32 (minimumf (broadcastInDim S40x8x128x8192 ![] bcast_S_S40x8x128x8192 (id (constant S_ .f32 0x40E00000#32)))
    (maximumf (broadcastInDim S40x8x128x8192 ![] bcast_S_S40x8x128x8192 (id (constant S_ .f32 0xC0E00000#32)))
      (Host.roundeven (Host.divf x (broadcastInDim S40x8x128x8192 ![0, 1, 2, 3] bcast_S40x8x1x8192_S40x8x128x8192_0_1_2_3
        (broadcastInDim S40x8x1x8192 ![0, 1, 3] bcast_S40x8x8192_S40x8x1x8192_0_1_3 (extf .f32 s bitsLt_bf16_f32)))))))

/-- The codes packed two to a byte, even rows low and odd rows high. -/
def pack (q : IVec S40x8x128x8192 32) : IVec S40x512x8192 8 :=
  trunci 8 (ori
    (andi (Host.slice S40x512x8192 ![0, 0, 0] ![1, 2, 1] (shapeCast _ q shapeCasts_S40x8x128x8192_S40x1024x8192)
      slicesBy_S40x1024x8192_S40x512x8192_0s1_0s2_0s1) (broadcastInDim S40x512x8192 ![] bcast_S_S40x512x8192 (constantI S_ 32 15#32)))
    (Host.shli (andi (Host.slice S40x512x8192 ![0, 1, 0] ![1, 2, 1] (shapeCast _ q shapeCasts_S40x8x128x8192_S40x1024x8192)
      slicesBy_S40x1024x8192_S40x512x8192_0s1_1s2_0s1) (broadcastInDim S40x512x8192 ![] bcast_S_S40x512x8192 (constantI S_ 32 15#32)))
      (broadcastInDim S40x512x8192 ![] bcast_S_S40x512x8192 (constantI S_ 32 4#32)))) natLt_8_32

/-- The rotated product of the four arguments. -/
def rotAll (a0 : IVec S40x1024x8192 8) (a1 : FVec F S40x8192 .f32) (a2 : FVec F S8192x8192 .bf16) (a3 : FVec F S40x128x128 .bf16) :
    FVec F S40x8x128x8192 .f32 := rot (prod (weights a0 a1) a2) a3

/-- The scales' result. -/
def scaleAll (a0 : IVec S40x1024x8192 8) (a1 : FVec F S40x8192 .f32) (a2 : FVec F S8192x8192 .bf16) (a3 : FVec F S40x128x128 .bf16) :
    FVec F S40x8x8192 .bf16 := scale (amax (rotAll a0 a1 a2 a3))

/-- The packed codes' result. -/
def packAll (a0 : IVec S40x1024x8192 8) (a1 : FVec F S40x8192 .f32) (a2 : FVec F S8192x8192 .bf16) (a3 : FVec F S40x128x128 .bf16) :
    IVec S40x512x8192 8 := pack (codes (rotAll a0 a1 a2 a3) (scaleAll a0 a1 a2 a3))

variable (m : (ℓ : Loc nD τ sig) → Buf (Elt F) ℓ) (ρ : Dev nD → PrngReg)

/-- The reference's run: the two results as the stages give them, the arguments unchanged. -/
theorem run : θ_run defs (onTc (τ := τ) (main (F := F))) ⟨m, fun _ => 0, ρ⟩ fun r => ∀ c : Dev nD,
      r.2.mem ((c.tc : Thread nD τ).loc main_v39) = packAll (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v21) = scaleAll (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h1, h2, h3⟩ := h c
    refine ⟨h1.trans ?_, h2.trans ?_, h3⟩
    · unfold Cert.ReferenceIdeal.Value.res_main_v39 packAll scaleAll rotAll pack codes scale amax rot prod weights
      rfl
    · unfold scaleAll rotAll scale amax rot prod weights
      rfl) (Cert.ReferenceIdeal.Value.run m ρ)

end Cert.ReferenceIdeal.Hand

end
-- ==== Proof.ReferenceIdeal.AtIndex.lean ====
/- The reference's stages read at an index, over the extended reals. -/
module

public import proofs.«01_k».proof.Proof.ReferenceIdeal.Stages
public import proofs.«01_k».proof.Proof.Values.Scalars
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe Idealize.SL.Sem Cert.Values

/-- The product at an index. -/
theorem prod_at (w : FVec Ideal S40x1024x8192 .bf16) (a2 : FVec Ideal S8192x8192 .bf16) (b : Fin 40) (r : Fin 1024) (n : Fin 8192) :
    prod w a2 (ix3 b r n) = ∑ j : Fin 8192, w (ix3 b r j) * a2 (ix2 j n) := by
  pointwise [prod]

/-- The dequantised weight: code times its column's scale. -/
theorem weights_at (a0 : IVec S40x1024x8192 8) (a1 : FVec Ideal S40x8192 .f32) (b : Fin 40) (r : Fin 1024) (j : Fin 8192) :
    weights a0 a1 (ix3 b r j) = (((a0 (ix3 b r j)).toInt : ℝ) : EReal) * a1 (ix2 b j) := by
  pointwise [weights]
  rw [← BitVec.toInt_signExtend_of_le (by decide : 8 ≤ 32)]
  rfl

/-- The rotated entry: the 128 rows of the head against the second rotation's column. -/
theorem rot_at (p : FVec Ideal S40x1024x8192 .f32) (a3 : FVec Ideal S40x128x128 .bf16) (b : Fin 40) (h : Fin 8) (e : Fin 128) (n : Fin 8192) :
    rot p a3 (ix4 b h e n) = ∑ d : Fin 128, p (ix3 b ⟨h.val * 128 + d.val, by omega⟩ n) * a3 (ix3 b d e) := by
  pointwise [rot]

/-- The largest magnitude of a column. -/
theorem amax_at (x : FVec Ideal S40x8x128x8192 .f32) (b : Fin 40) (h : Fin 8) (n : Fin 8192) :
    amax x (ix3 b h n) = colMax fun e : Fin 128 => x (ix4 b h e n) := by
  pointwise [amax]
  rfl

/-- The scale of a column. -/
theorem scale_at (am : FVec Ideal S40x8x8192 .f32) (b : Fin 40) (h : Fin 8) (n : Fin 8192) :
    scale am (ix3 b h n) = scaleOne (am (ix3 b h n)) := by
  pointwise [scale]
  rfl

/-- The code of an entry. -/
theorem codes_at (x : FVec Ideal S40x8x128x8192 .f32) (s : FVec Ideal S40x8x8192 .bf16) (b : Fin 40) (h : Fin 8) (e : Fin 128) (n : Fin 8192) :
    codes x s (ix4 b h e n) = codeOne (x (ix4 b h e n)) (s (ix3 b h n)) := by
  pointwise [codes]
  rfl

/-- Row `r`'s byte holds the codes of rows `2 r` and `2 r + 1` of the 1024. -/
theorem pack_at (q : IVec S40x8x128x8192 32) (b : Fin 40) (r : Fin 512) (n : Fin 8192) :
    pack q (ix3 b r n) = byteOne (q (ix4 b ⟨2 * r.val / 128, by omega⟩ ⟨2 * r.val % 128, by omega⟩ n))
      (q (ix4 b ⟨(1 + 2 * r.val) / 128, by omega⟩ ⟨(1 + 2 * r.val) % 128, by omega⟩ n)) := by
  pointwise [pack]
  rfl

end Cert.ReferenceIdeal.Hand

end
-- ==== Proof.Values.Column.lean ====
/- One column of one head over the extended reals: the rotated entries as the kernel sums them (the entry and two left-over
   pieces) against the reference's plain sum. Where every entry that meets a nonzero factor is finite the two sums are equal;
   elsewhere both are infinite. Either way the magnitudes are equal, and with them the scale and every code. -/
module

public import proofs.«01_k».proof.Proof.Values.Scalars

@[expose] public section

noncomputable section

namespace Cert.Values

open Idealize.ShloMosaic

/-- Infinite, of either sign. -/
def Infinite (y : EReal) : Prop := y = ⊤ ∨ y = ⊥

/-- An infinite term makes a sum of two infinite. -/
theorem Infinite.add {y : EReal} (h : Infinite y) (z : EReal) : Infinite (y + z) := by
  rcases h with rfl | rfl
  · induction z using EReal.rec with
    | bot => right; simp
    | coe z => left; simp
    | top => left; simp
  · right; simp

/-- An infinite term makes a sum infinite. -/
theorem Infinite.sum {n : ℕ} (f : Fin n → EReal) (i : Fin n) (h : Infinite (f i)) : Infinite (∑ j, f j) := by
  rw [← Finset.add_sum_erase _ _ (Finset.mem_univ i)]
  exact h.add _

/-- A product of an infinite and a nonzero factor is infinite. -/
theorem Infinite.mul {y w : EReal} (h : Infinite y) (hw : w ≠ 0) : Infinite (y * w) := by
  rcases h with rfl | rfl
  · rcases lt_or_gt_of_ne hw with h | h
    · right; exact EReal.top_mul_of_neg h
    · left; exact EReal.top_mul_of_pos h
  · rcases lt_or_gt_of_ne hw with h | h
    · left; exact EReal.bot_mul_of_neg h
    · right; exact EReal.bot_mul_of_pos h

/-- The magnitude of an infinite value. -/
theorem Infinite.mag {y : EReal} (h : Infinite y) : mag y = ⊤ := by
  rcases h with rfl | rfl <;> simp [Cert.Values.mag]

/-- A finite value less itself is zero. -/
theorem sub_self_of_finite {y : EReal} (h : ¬Infinite y) : y - y = 0 := by
  induction y using EReal.rec with
  | bot => exact absurd (.inr rfl) h
  | coe y => rw [← EReal.coe_sub, sub_self, EReal.coe_zero]
  | top => exact absurd (.inl rfl) h

/-- The kernel's rotated entry: the factors `w` against the entries, the entries less themselves, and those less themselves. -/
def threeSum (x w : Fin 128 → EReal) : EReal :=
  (∑ d, w d * x d) + ((∑ d, w d * (x d - x d)) + ∑ d, w d * (x d - x d - (x d - x d)))

/-- The reference's rotated entry. -/
def oneSum (x w : Fin 128 → EReal) : EReal := ∑ d, x d * w d

/-- The two rotated entries are equal, or both infinite. -/
theorem threeSum_or (x w : Fin 128 → EReal) :
    threeSum x w = oneSum x w ∨ (Infinite (threeSum x w) ∧ Infinite (oneSum x w)) := by
  by_cases h : ∃ d, Infinite (x d) ∧ w d ≠ 0
  · obtain ⟨d, hx, hw⟩ := h
    right
    refine ⟨?_, ?_⟩
    · refine Infinite.add (Infinite.sum _ d ?_) _
      rw [mul_comm]; exact hx.mul hw
    · exact Infinite.sum _ d (hx.mul hw)
  · left
    have hz : ∀ d, w d * (x d - x d) = 0 ∧ w d * (x d - x d - (x d - x d)) = 0 := fun d => by
      by_cases hw : w d = 0
      · rw [hw, zero_mul, zero_mul]; exact ⟨rfl, rfl⟩
      · have hx : ¬Infinite (x d) := fun hx => h ⟨d, hx, hw⟩
        rw [sub_self_of_finite hx, sub_zero, mul_zero]; exact ⟨rfl, rfl⟩
    unfold threeSum oneSum
    rw [Finset.sum_eq_zero fun d _ => (hz d).1, Finset.sum_eq_zero fun d _ => (hz d).2, add_zero, add_zero]
    exact Finset.sum_congr rfl fun d _ => mul_comm _ _

/-- So their magnitudes are equal. -/
theorem mag_threeSum (x w : Fin 128 → EReal) : mag (threeSum x w) = mag (oneSum x w) := by
  rcases threeSum_or x w with h | ⟨h1, h2⟩
  · rw [h]
  · rw [h1.mag, h2.mag]

/-- The largest magnitude does not depend on the order of the rows. -/
theorem colMax_perm (f g : Fin 128 → EReal) (σ : Equiv.Perm (Fin 128)) (h : ∀ e, mag (f e) = mag (g (σ e))) : colMax f = colMax g := by
  unfold colMax
  simp only [h]
  have := Finset.fold_map (op := (max : EReal → EReal → EReal)) (b := Ideal.ofBits .f32 0xFF800000#32) (g := σ.toEmbedding)
    (s := Finset.univ) (f := fun e => mag (g e))
  rw [Finset.map_univ_equiv] at this
  exact this.symm

/-- An entry of infinite magnitude makes the column's largest magnitude infinite. -/
theorem colMax_of_infinite (f : Fin 128 → EReal) (e : Fin 128) (h : Infinite (f e)) : colMax f = ⊤ := by
  unfold colMax
  rw [← Finset.insert_erase (Finset.mem_univ e), Finset.fold_insert (Finset.notMem_erase e _), h.mag]
  exact top_sup_eq _

/-- A seven is positive and finite. -/
theorem seven : Ideal.ofBits .f32 0x40E00000#32 = ((7 : ℝ) : EReal) := by
  simp [Ideal.ofBits, Ideal.ieee]
  rw [← EReal.coe_mul]
  norm_num

/-- The scale of an infinite column is infinite. -/
theorem scaleOne_top : scaleOne ⊤ = ⊤ := by
  unfold scaleOne
  rw [if_neg (by simp), seven]
  unfold Ideal.div
  rw [if_neg (by norm_num)]
  rw [← EReal.coe_inv]
  exact EReal.top_mul_coe_of_pos (by norm_num)

/-- Over an infinite scale every entry's quotient is zero. -/
theorem div_top (x : EReal) : Ideal.div x ⊤ = 0 := by
  unfold Ideal.div
  rw [if_neg (by simp), EReal.inv_top, mul_zero]

/-- The codes of two entries that are equal, or both infinite, at their column's scale. -/
theorem codeOne_congr (f : Fin 128 → EReal) (e : Fin 128) (y : EReal) (h : y = f e ∨ (Infinite y ∧ Infinite (f e))) :
    codeOne y (scaleOne (colMax f)) = codeOne (f e) (scaleOne (colMax f)) := by
  rcases h with rfl | ⟨-, h⟩
  · rfl
  · rw [colMax_of_infinite f e h, scaleOne_top]
    unfold codeOne
    rw [div_top, div_top]

end Cert.Values

end
-- ==== Proof.Values.Tie.lean ====
/- The kernel's two results are the reference's, index by index, over the extended reals and at every value of the arguments. -/
module

public import proofs.«01_k».proof.Proof.KernelIdeal.Arrays
public import proofs.«01_k».proof.Proof.KernelIdeal.AtIndex
public import proofs.«01_k».proof.Proof.KernelIdeal.Blocks
public import proofs.«01_k».proof.Proof.ReferenceIdeal.AtIndex
public import proofs.«01_k».proof.Proof.Values.Column

@[expose] public section

set_option maxRecDepth 16384

noncomputable section

namespace Cert.Values

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (c : Dev nD)

/-- The kernel's first argument, the codes. -/
abbrev arg0 : IVec S40x1024x8192 8 := m ((c : Thread nD τ).loc main_arg0)
/-- The second, the scales. -/
abbrev arg1 : FVec Ideal S40x8192 .f32 := m ((c : Thread nD τ).loc main_arg1)
/-- The third, the first rotation. -/
abbrev arg2 : FVec Ideal S8192x8192 .bf16 := m ((c : Thread nD τ).loc main_arg2)
/-- The fourth, the batches' second rotations. -/
abbrev arg3 : FVec Ideal S40x128x128 .bf16 := m ((c : Thread nD τ).loc main_arg3)

/-- The reference's product of the kernel's arguments. -/
abbrev refProd : FVec Ideal S40x1024x8192 .f32 :=
  Cert.ReferenceIdeal.Hand.prod (Cert.ReferenceIdeal.Hand.weights (arg0 m c) (arg1 m c)) (arg2 m c)

/-- The reference's rotated product of them. -/
abbrev refRot : FVec Ideal Cert.ReferenceIdeal.S40x8x128x8192 .f32 := Cert.ReferenceIdeal.Hand.rotAll (arg0 m c) (arg1 m c) (arg2 m c) (arg3 m c)

/-- The product a grid point computes. -/
abbrev accAt (t : Fin cfg0.N) : FVec Ideal S1024x512 .f32 := k0_pay4 (carried m c t.val t.isLt) (iblk m c 2 t)

/-- A grid point's product is its batch's and column tile's part of the reference's. -/
theorem acc_at (t : Fin cfg0.N) (b : Fin 40) (hb : t.val / 16 = b.val) (r : Fin 1024) (n : Fin 512) (n' : Fin 8192)
    (hn : n'.val = t.val % 16 * 512 + n.val) : accAt m c t (ix2 r n) = refProd m c (ix3 b r n') := by
  have hf : (first t.val t.isLt).val / 16 = b.val := by
    show (t.val - t.val % 16) / 16 = b.val
    omega
  unfold accAt refProd carried
  rw [pay4_at, Cert.ReferenceIdeal.Hand.prod_at]
  refine Finset.sum_congr rfl fun j _ => ?_
  rw [pay3_at, Cert.ReferenceIdeal.Hand.weights_at, iblk0_at m c _ b hf r j, iblk1_at m c _ b hf j, iblk2_at m c t j n n' hn]

/-- Head `h`'s rows of the reference's column `n`. -/
def column (b : Fin 40) (h : Fin 8) (n : Fin 8192) : Fin 128 → EReal := fun d => refProd m c (ix3 b ⟨h.val * 128 + d.val, by omega⟩ n)

/-- Row `e` of the transposed second rotation. -/
def factors (b : Fin 40) (e : Fin 128) : Fin 128 → EReal := fun d => arg3 m c (ix3 b d e)

/-- A sum over 384 positions in three runs of 128. -/
theorem sum_three (f : Fin 384 → EReal) : ∑ l, f l = (∑ d : Fin 128, f ⟨d.val, by omega⟩)
    + ((∑ d : Fin 128, f ⟨128 + d.val, by omega⟩) + ∑ d : Fin 128, f ⟨128 + (128 + d.val), by omega⟩) := by
  rw [Fin.sum_univ_two_halves 128 256 rfl f, Fin.sum_univ_two_halves 128 128 rfl fun k : Fin 256 => f ⟨128 + k.val, by omega⟩]

/-- A grid point's rotated entry is the three-piece sum. -/
theorem rotK_at (t : Fin cfg0.N) (b : Fin 40) (hb : t.val / 16 = b.val) (h : Fin 8) (k : Fin 128) (n : Fin 512) (n' : Fin 8192)
    (hn : n'.val = t.val % 16 * 512 + n.val) :
    rotOf (rowsOf (accAt m c t) h) (iblk m c 3 t) (ix2 k n) = threeSum (column m c b h n') (factors m c b (rowAt k)) := by
  have hx : ∀ (d : ℕ) (hd : d < 128), rowsOf (accAt m c t) h (ix2 ⟨d, hd⟩ n) = column m c b h n' ⟨d, hd⟩ := fun d hd => by
    rw [rowsOf_at, acc_at m c t b hb _ n n' hn]
    refine congrArg (refProd m c) (congrArg (fun r => ix3 b r n') (Fin.ext ?_))
    show 128 * h.val + d = h.val * 128 + d
    omega
  have hw : ∀ (l : Fin 384) (d : Fin 128), l.val % 128 = d.val →
      (iblk m c 3 t : FVec Ideal S1x128x384 .bf16) (ix3 0 k l) = factors m c b (rowAt k) d := fun l d hl => by
    rw [iblk3_at m c t b hb k l]
    exact congrArg (fun d => arg3 m c (ix3 b d (rowAt k))) (Fin.ext hl)
  rw [rotOf_at, sum_three]
  unfold threeSum
  refine congrArg₂ (· + ·) (Finset.sum_congr rfl fun d _ => ?_)
    (congrArg₂ (· + ·) (Finset.sum_congr rfl fun d _ => ?_) (Finset.sum_congr rfl fun d _ => ?_))
  · rw [hw _ d (Nat.mod_eq_of_lt d.isLt), dif_pos d.isLt, hx]
  · have e : 128 + d.val - 128 = d.val := by omega
    rw [hw _ d (by show (128 + d.val) % 128 = d.val; omega), dif_neg (by show ¬128 + d.val < 128; omega),
      dif_pos (by show 128 + d.val - 128 < 128; omega), hx]
    simp only [e]
  · have e : 128 + (128 + d.val) - 128 - 128 = d.val := by omega
    rw [hw _ d (by show (128 + (128 + d.val)) % 128 = d.val; omega), dif_neg (by show ¬128 + (128 + d.val) < 128; omega),
      dif_neg (by show ¬128 + (128 + d.val) - 128 < 128; omega), hx]
    simp only [e]

/-- The reference's rotated entry is the plain sum. -/
theorem rotR_at (b : Fin 40) (h : Fin 8) (e : Fin 128) (n : Fin 8192) :
    refRot m c (ix4 b h e n) = oneSum (column m c b h n) (factors m c b e) := by
  unfold refRot Cert.ReferenceIdeal.Hand.rotAll
  rw [Cert.ReferenceIdeal.Hand.rot_at]
  rfl

/-- Putting the even rows first is a permutation of the rows. -/
theorem rowAt_injective : Function.Injective rowAt := fun i j h => by
  have h' := congrArg Fin.val h
  unfold rowAt at h'
  apply Fin.ext
  have hi := i.isLt
  have hj := j.isLt
  split at h' <;> split at h' <;> dsimp only at h' <;> omega

/-- That permutation. -/
def rowPerm : Equiv.Perm (Fin 128) := Equiv.ofBijective rowAt (Finite.injective_iff_bijective.mp rowAt_injective)

/-- The column's largest magnitude is the same in both programs. -/
theorem colMax_eq (t : Fin cfg0.N) (b : Fin 40) (hb : t.val / 16 = b.val) (h : Fin 8) (n : Fin 512) (n' : Fin 8192)
    (hn : n'.val = t.val % 16 * 512 + n.val) :
    colMax (fun k => rotOf (rowsOf (accAt m c t) h) (iblk m c 3 t) (ix2 k n)) = colMax fun e => refRot m c (ix4 b h e n') :=
  colMax_perm _ _ rowPerm fun k => by
    show mag _ = mag (refRot m c (ix4 b h (rowAt k) n'))
    rw [rotK_at m c t b hb h k n n' hn, rotR_at, mag_threeSum]

/-- A row's code is the reference's code of the row it holds. -/
theorem code_eq (t : Fin cfg0.N) (b : Fin 40) (hb : t.val / 16 = b.val) (h : Fin 8) (k : Fin 128) (n : Fin 512) (n' : Fin 8192)
    (hn : n'.val = t.val % 16 * 512 + n.val) :
    codeOne (rotOf (rowsOf (accAt m c t) h) (iblk m c 3 t) (ix2 k n))
        (scaleOne (colMax fun k => rotOf (rowsOf (accAt m c t) h) (iblk m c 3 t) (ix2 k n)))
      = Cert.ReferenceIdeal.Hand.codes (refRot m c) (Cert.ReferenceIdeal.Hand.scaleAll (arg0 m c) (arg1 m c) (arg2 m c) (arg3 m c))
          (ix4 b h (rowAt k) n') := by
  rw [colMax_eq m c t b hb h n n' hn, Cert.ReferenceIdeal.Hand.codes_at]
  unfold Cert.ReferenceIdeal.Hand.scaleAll
  rw [Cert.ReferenceIdeal.Hand.scale_at, Cert.ReferenceIdeal.Hand.amax_at]
  refine codeOne_congr (fun e => refRot m c (ix4 b h e n')) (rowAt k) _ ?_
  rw [rotK_at m c t b hb h k n n' hn, rotR_at]
  exact threeSum_or _ _

/-- The packed codes are the reference's. -/
theorem packed_eq : G4 m c = Cert.ReferenceIdeal.Hand.packAll (F := Ideal) (arg0 m c) (arg1 m c) (arg2 m c) (arg3 m c) := by
  funext (i : S40x512x8192.Idx)
  obtain ⟨b, r, n', rfl⟩ : ∃ (b : Fin 40) (r : Fin 512) (n' : Fin 8192), i = ix3 b r n' := ⟨i 0, i 1, i 2, eq_ix3 i⟩
  have hv : (pt4 (ix3 b r n')).val = 16 * b.val + n'.val / 512 := rfl
  have hb : (pt4 (ix3 b r n')).val / 16 = b.val := by have := n'.isLt; omega
  have hn : n'.val = (pt4 (ix3 b r n')).val % 16 * 512 + (⟨n'.val % 512, Nat.mod_lt _ (by decide)⟩ : Fin 512).val := by
    have := n'.isLt
    show n'.val = (pt4 (ix3 b r n')).val % 16 * 512 + n'.val % 512
    omega
  have hk : (r.val % 64) < 64 := Nat.mod_lt _ (by decide)
  show headQ (accAt m c (pt4 (ix3 b r n'))) (iblk m c 3 (pt4 (ix3 b r n'))) ⟨r.val / 64, by omega⟩
    (ix3 (n0 := 1) (n1 := 64) (n2 := 512) 0 ⟨r.val % 64, hk⟩ ⟨n'.val % 512, Nat.mod_lt _ (by decide)⟩) = _
  rw [headQ_at, code_eq m c _ b hb _ _ _ n' hn, code_eq m c _ b hb _ _ _ n' hn]
  unfold Cert.ReferenceIdeal.Hand.packAll
  rw [Cert.ReferenceIdeal.Hand.pack_at]
  have e1 : (⟨r.val / 64, by omega⟩ : Fin 8) = ⟨2 * r.val / 128, by omega⟩ := Fin.ext (by show r.val / 64 = 2 * r.val / 128; omega)
  have e2 : (⟨r.val / 64, by omega⟩ : Fin 8) = ⟨(1 + 2 * r.val) / 128, by omega⟩ := Fin.ext (by show r.val / 64 = (1 + 2 * r.val) / 128; omega)
  have f1 : rowAt ⟨r.val % 64, by omega⟩ = ⟨2 * r.val % 128, by omega⟩ := by
    unfold rowAt; rw [dif_pos hk]; exact Fin.ext (by show 2 * (r.val % 64) = 2 * r.val % 128; omega)
  have f2 : rowAt ⟨64 + r.val % 64, by omega⟩ = ⟨(1 + 2 * r.val) % 128, by omega⟩ := by
    unfold rowAt; rw [dif_neg (by show ¬64 + r.val % 64 < 64; omega)]
    exact Fin.ext (by show 2 * (64 + r.val % 64 - 64) + 1 = (1 + 2 * r.val) % 128; omega)
  rw [f1, f2, ← e1, ← e2]

/-- The scales are the reference's. -/
theorem scales_eq : G5 m c = Cert.ReferenceIdeal.Hand.scaleAll (F := Ideal) (arg0 m c) (arg1 m c) (arg2 m c) (arg3 m c) := by
  funext (i : S40x8x8192.Idx)
  obtain ⟨b, h, n', rfl⟩ : ∃ (b : Fin 40) (h : Fin 8) (n' : Fin 8192), i = ix3 b h n' := ⟨i 0, i 1, i 2, eq_ix3 i⟩
  have hv : (pt5 (ix3 b h n')).val = 16 * b.val + n'.val / 512 := rfl
  have hb : (pt5 (ix3 b h n')).val / 16 = b.val := by have := n'.isLt; omega
  have hn : n'.val = (pt5 (ix3 b h n')).val % 16 * 512 + (⟨n'.val % 512, Nat.mod_lt _ (by decide)⟩ : Fin 512).val := by
    have := n'.isLt
    show n'.val = (pt5 (ix3 b h n')).val % 16 * 512 + n'.val % 512
    omega
  show headS (accAt m c (pt5 (ix3 b h n'))) (iblk m c 3 (pt5 (ix3 b h n'))) h
    (ix3 (n0 := 1) (n1 := 1) (n2 := 512) 0 0 ⟨n'.val % 512, Nat.mod_lt _ (by decide)⟩) = _
  rw [headS_at, colMax_eq m c _ b hb h _ n' hn]
  unfold Cert.ReferenceIdeal.Hand.scaleAll
  rw [Cert.ReferenceIdeal.Hand.scale_at, Cert.ReferenceIdeal.Hand.amax_at]

end Cert.Values

end
-- ==== Proof.lean ====
/- The certificate's claims: the two programs and the reference run and leave their arguments as they were, the idealized program
   keeps the kernel's text, and over the extended reals the kernel's two results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Kernel.Frame
public import proofs.«01_k».proof.Proof.KernelIdeal.Frame
public import proofs.«01_k».proof.Proof.Values.Tie
public import Idealize.ShloMosaic.Adequacy
public import Idealize.ShloMosaic.Init

@[expose] public section

noncomputable section

namespace Cert.Proof

open Idealize.ShloMosaic Idealize.SL.Sem Cert.Kernel

/-- The program's frame: it runs, leaves its arguments and every semaphore counter as they were. -/
theorem frame_kernel : Cert.quiescent_Kernel := fun m ρ _ => Cert.Kernel.Hand.frame m ρ

/-- The same of the program read at the ideal instance. -/
theorem frame_ideal : Cert.quiescent_KernelIdeal := fun m ρ _ => Cert.KernelIdeal.Hand.frame m ρ

/-- The reference's frame: its run is a straight line of host operations, and it declares no semaphore. -/
theorem frame_reference : Cert.quiescent_ReferenceIdeal := fun m ρ _ =>
  (θ_run Cert.ReferenceIdeal.defs _ _).mono (fun r h => ⟨fun c => (h c).2.2,
    Idealize.ShloMosaic.sem_eq_zero_of_no_sems (by decide) r.2⟩) (Cert.ReferenceIdeal.Value.run (F := Ideal) m ρ)

/-- Over the extended reals, from memories that agree on the four arguments, both programs end with the same packed codes and the
    same scales, and unchanged arguments. -/
theorem algebraic : Cert.algebraic_KernelIdeal_ReferenceIdeal := fun m ρ m' ρ' _ hagree =>
  ⟨fun c => Cert.KernelIdeal.Hand.G4 m c, fun c => Cert.KernelIdeal.Hand.G5 m c, Cert.KernelIdeal.Hand.run m ρ,
    (θ_run Cert.ReferenceIdeal.defs _ _).mono (fun r h c => by
      obtain ⟨h1, h2, h3⟩ := h c
      obtain ⟨e0, e1, e2, e3⟩ := hagree c
      refine ⟨h1.trans ?_, h2.trans ?_, h3⟩
      · rw [e0, e1, e2, e3]; exact (Cert.Values.packed_eq m c).symm
      · rw [e0, e1, e2, e3]; exact (Cert.Values.scales_eq m c).symm) (Cert.ReferenceIdeal.Hand.run m' ρ')⟩

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
